-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![128, 256]⟩ ⟨2, ![128, 1024]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![128, 256]⟩ ⟨2, ![128, 1024]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![128, 256]⟩ ⟨2, ![128, 1024]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![256, 128]⟩ ⟨2, ![1024, 128]⟩ 0 4 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![256, 128]⟩ ⟨2, ![1024, 128]⟩ 0 4 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![256, 128]⟩ ⟨2, ![1024, 128]⟩ 0 4 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![32, 128]⟩ ⟨2, ![128, 128]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x128 : Shape := ⟨2, ![128, 128]⟩
abbrev S128x256 : Shape := ⟨2, ![128, 256]⟩
abbrev S256x128 : Shape := ⟨2, ![256, 128]⟩
abbrev S32x128 : Shape := ⟨2, ![32, 128]⟩
abbrev S3x128x128 : Shape := ⟨3, ![3, 128, 128]⟩
abbrev S2x3x128x128 : Shape := ⟨4, ![2, 3, 128, 128]⟩
abbrev S3x32x128 : Shape := ⟨3, ![3, 32, 128]⟩
abbrev S3x3 : Shape := ⟨2, ![3, 3]⟩
abbrev S_ : Shape := ⟨0, ![]⟩
abbrev S1x128x128 : Shape := ⟨3, ![1, 128, 128]⟩
abbrev S1x1 : Shape := ⟨2, ![1, 1]⟩
abbrev S1x1x128x128 : Shape := ⟨4, ![1, 1, 128, 128]⟩
abbrev S1x32x128 : Shape := ⟨3, ![1, 32, 128]⟩

abbrev nBuf : Space → Nat
  | .hbm => 8
  | .vmem => 11
  | .smem => 0
  | _ => 0

abbrev bufTy : (tb : Table) → Fin (tcTables nBuf tb) → BufTy
  | .hbm, ⟨0, _⟩ => ⟨S128x128, .f32⟩
  | .hbm, ⟨1, _⟩ => ⟨S128x256, .f32⟩
  | .hbm, ⟨2, _⟩ => ⟨S128x256, .f32⟩
  | .hbm, ⟨3, _⟩ => ⟨S128x256, .f32⟩
  | .hbm, ⟨4, _⟩ => ⟨S256x128, .f32⟩
  | .hbm, ⟨5, _⟩ => ⟨S256x128, .f32⟩
  | .hbm, ⟨6, _⟩ => ⟨S256x128, .f32⟩
  | .hbm, ⟨7, _⟩ => ⟨S32x128, .f32⟩
  | .local _ .vmem, ⟨0, _⟩ => ⟨S128x128, .f32⟩
  | .local _ .vmem, ⟨1, _⟩ => ⟨S128x256, .f32⟩
  | .local _ .vmem, ⟨2, _⟩ => ⟨S256x128, .f32⟩
  | .local _ .vmem, ⟨3, _⟩ => ⟨S128x256, .f32⟩
  | .local _ .vmem, ⟨4, _⟩ => ⟨S256x128, .f32⟩
  | .local _ .vmem, ⟨5, _⟩ => ⟨S128x256, .f32⟩
  | .local _ .vmem, ⟨6, _⟩ => ⟨S256x128, .f32⟩
  | .local _ .vmem, ⟨7, _⟩ => ⟨S32x128, .f32⟩
  | .local _ .vmem, ⟨8, _⟩ => ⟨S3x128x128, .bf16⟩
  | .local _ .vmem, ⟨9, _⟩ => ⟨S2x3x128x128, .bf16⟩
  | .local _ .vmem, ⟨10, _⟩ => ⟨S3x32x128, .bf16⟩
  | _, _ => ⟨S128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  (ofTc nBuf bufTy 1 26 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_41 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_31 : BitVec 32 := 2#32
  let v46 : BitVec 32 := Scalar.addi v2 c2_i32_31
  let c4_i32_32 : BitVec 32 := 4#32
  let v47 : BitVec 32 := Scalar.remsi v46 c4_i32_32
  let c1_i32_40 : BitVec 32 := 1#32
  let v48 : BitVec 32 := Scalar.muli v47 c1_i32_40
  let v49 : BitVec 32 := Scalar.addi c0_i32_41 v48
  v49.toNat
def k0_dev5 (d0 : Dev nD) : Nat :=
  let c0_i32_56 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_46 : BitVec 32 := 1#32
  let v58 : BitVec 32 := Scalar.addi v2 c1_i32_46
  let c4_i32_47 : BitVec 32 := 4#32
  let v59 : BitVec 32 := Scalar.remsi v58 c4_i32_47
  let c1_i32_55 : BitVec 32 := 1#32
  let v60 : BitVec 32 := Scalar.muli v59 c1_i32_55
  let v61 : BitVec 32 := Scalar.addi c0_i32_56 v60
  v61.toNat
def k0_dev6 (d0 : Dev nD) : Nat :=
  let c0_i32_71 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_61 : BitVec 32 := 3#32
  let v70 : BitVec 32 := Scalar.addi v2 c3_i32_61
  let c4_i32_62 : BitVec 32 := 4#32
  let v71 : BitVec 32 := Scalar.remsi v70 c4_i32_62
  let c1_i32_70 : BitVec 32 := 1#32
  let v72 : BitVec 32 := Scalar.muli v71 c1_i32_70
  let v73 : BitVec 32 := Scalar.addi c0_i32_71 v72
  v73.toNat
def k0_dev7 (d0 : Dev nD) : Nat :=
  let c0_i32_141 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_131 : BitVec 32 := 2#32
  let v124 : BitVec 32 := Scalar.addi v2 c2_i32_131
  let c4_i32_132 : BitVec 32 := 4#32
  let v125 : BitVec 32 := Scalar.remsi v124 c4_i32_132
  let c1_i32_140 : BitVec 32 := 1#32
  let v126 : BitVec 32 := Scalar.muli v125 c1_i32_140
  let v127 : BitVec 32 := Scalar.addi c0_i32_141 v126
  v127.toNat
def k0_dev8 (d0 : Dev nD) : Nat :=
  let c0_i32_156 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_146 : BitVec 32 := 1#32
  let v136 : BitVec 32 := Scalar.addi v2 c1_i32_146
  let c4_i32_147 : BitVec 32 := 4#32
  let v137 : BitVec 32 := Scalar.remsi v136 c4_i32_147
  let c1_i32_155 : BitVec 32 := 1#32
  let v138 : BitVec 32 := Scalar.muli v137 c1_i32_155
  let v139 : BitVec 32 := Scalar.addi c0_i32_156 v138
  v139.toNat
def k0_dev9 (d0 : Dev nD) : Nat :=
  let c0_i32_171 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_161 : BitVec 32 := 3#32
  let v148 : BitVec 32 := Scalar.addi v2 c3_i32_161
  let c4_i32_162 : BitVec 32 := 4#32
  let v149 : BitVec 32 := Scalar.remsi v148 c4_i32_162
  let c1_i32_170 : BitVec 32 := 1#32
  let v150 : BitVec 32 := Scalar.muli v149 c1_i32_170
  let v151 : BitVec 32 := Scalar.addi c0_i32_171 v150
  v151.toNat
def k0_off1 (d0 : Dev nD) (c2_i32_233 : BitVec 32) : Fin 3 → Nat :=
  let c2_i32_235 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v202 : BitVec 32 := Scalar.addi v2 c2_i32_233
  let c4_i32_234 : BitVec 32 := 4#32
  let v203 : BitVec 32 := Scalar.remsi v202 c4_i32_234
  let c32_i32 : BitVec 32 := 32#32
  let v204 : BitVec 32 := Scalar.muli v203 c32_i32
  let c0_i32_245 : BitVec 32 := 0#32
  ![2, v204.toNat, 0]
def k0_dev10 (d0 : Dev nD) : Nat :=
  let c0_i32_242 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_233 : BitVec 32 := 2#32
  let v202 : BitVec 32 := Scalar.addi v2 c2_i32_233
  let c4_i32_234 : BitVec 32 := 4#32
  let v203 : BitVec 32 := Scalar.remsi v202 c4_i32_234
  let c1_i32_241 : BitVec 32 := 1#32
  let v205 : BitVec 32 := Scalar.muli v203 c1_i32_241
  let v206 : BitVec 32 := Scalar.addi c0_i32_242 v205
  v206.toNat
def k0_dev11 (d0 : Dev nD) : Nat :=
  let c0_i32_256 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_246 : BitVec 32 := 1#32
  let v215 : BitVec 32 := Scalar.addi v2 c1_i32_246
  let c4_i32_247 : BitVec 32 := 4#32
  let v216 : BitVec 32 := Scalar.remsi v215 c4_i32_247
  let c1_i32_255 : BitVec 32 := 1#32
  let v218 : BitVec 32 := Scalar.muli v216 c1_i32_255
  let v219 : BitVec 32 := Scalar.addi c0_i32_256 v218
  v219.toNat
def k0_dev12 (d0 : Dev nD) : Nat :=
  let c0_i32_270 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_260 : BitVec 32 := 3#32
  let v228 : BitVec 32 := Scalar.addi v2 c3_i32_260
  let c4_i32_261 : BitVec 32 := 4#32
  let v229 : BitVec 32 := Scalar.remsi v228 c4_i32_261
  let c1_i32_269 : BitVec 32 := 1#32
  let v231 : BitVec 32 := Scalar.muli v229 c1_i32_269
  let v232 : BitVec 32 := Scalar.addi c0_i32_270 v231
  v232.toNat
def k0_off2 (d0 : Dev nD) : Fin 3 → Nat :=
  let c2_275 : Index := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c32_i32_274 : BitVec 32 := 32#32
  let v241 : BitVec 32 := Scalar.muli v2 c32_i32_274
  let v242 : Index := Scalar.indexCast v241
  let c0_276 : Index := 0#32
  ![2, v242.toNat, 0]
abbrev stage0_0 : Fin 1 → Memref sig .tc .vmem S128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S128x128 : Shape := ⟨2, ![128, 128]⟩
abbrev S128x1024 : Shape := ⟨2, ![128, 1024]⟩
abbrev S1024x128 : Shape := ⟨2, ![1024, 128]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S128x128, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S1024x128, .f32⟩
  | .hbm, ⟨5, _⟩ => ⟨S1024x128, .f32⟩
  | .hbm, ⟨6, _⟩ => ⟨S1024x128, .f32⟩
  | .hbm, ⟨7, _⟩ => ⟨S128x1024, .f32⟩
  | .hbm, ⟨8, _⟩ => ⟨S_, .f32⟩
  | .hbm, ⟨9, _⟩ => ⟨S128x1024, .f32⟩
  | .hbm, ⟨10, _⟩ => ⟨S128x1024, .f32⟩
  | .hbm, ⟨11, _⟩ => ⟨S128x128, .f32⟩
  | .hbm, ⟨12, _⟩ => ⟨S128x1024, .f32⟩
  | .hbm, ⟨13, _⟩ => ⟨S_, .f32⟩
  | .hbm, ⟨14, _⟩ => ⟨S128x1024, .f32⟩
  | .hbm, ⟨15, _⟩ => ⟨S128x1024, .f32⟩
  | .hbm, ⟨16, _⟩ => ⟨S128x128, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x128, .f32⟩
  | _, _ => ⟨S128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.KernelIdeal.Contents.lean ====
/-
# What every buffer of the kernel holds

The kernel runs three layers on four devices. In each layer a device forms its partial product, sends it to the
three other devices and adds up what it receives; in the last layer only blocks of 32 rows travel. This module
names what the partial-product buffer, the two landing buffers and the result hold, as functions of the argument
shards, and proves that a transfer writes exactly that into the slot it lands in.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.ValueLayout
public import Idealize.ShloMosaic.Lib.Tactic

@[expose] public section

noncomputable section

namespace Cert.KernelIdeal.Mlp

open Cert.KernelIdeal Cert.KernelIdeal.Gen
open Idealize.ShloMosaic Idealize.ShloMosaic.TcCoe
open Idealize.SL Idealize.SL.Sem
open Idealize.ShloMosaic.ValueIdx

variable {F : FTy → Type} [FloatOps F]
variable (m : (ℓ : Loc nD τ sig) → Buf (Elt F) ℓ) (ρ : Dev nD → PrngReg)

/-- The state the program starts in: memory `m`, every semaphore at zero. -/
def s₀ : MemSt nD τ sig (Elt F) := ⟨m, fun _ => 0, ρ⟩

/-! ## The devices -/

set_option backward.proofsInPublic true in
/-- The device `d + 1` places after `c`: where transfer `d` of `c` goes. -/
def peer (c : Dev nD) (d : Fin 3) : Dev nD := ⟨(c.val + d.val + 1) % 4, Nat.mod_lt _ (by decide)⟩
set_option backward.proofsInPublic true in
/-- The device `d + 1` places before `c`: where what lands in slot `d` of `c` comes from. -/
def back (c : Dev nD) (d : Fin 3) : Dev nD := ⟨(c.val + 3 - d.val) % 4, Nat.mod_lt _ (by decide)⟩
/-- The device `d + 1` places before the one `d + 1` places after `c` is `c`. -/
theorem back_peer (c : Dev nD) (d : Fin 3) : back (peer c d) d = c := by revert c d; decide
/-- The device `d + 1` places after the one `d + 1` places before `c` is `c`. -/
theorem peer_back (c : Dev nD) (d : Fin 3) : peer (back c d) d = c := by revert c d; decide
/-- Going `d + 1` places forth is going `3 - d` places back. -/
theorem back_rev (c : Dev nD) (d : Fin 3) : back c d.rev = peer c d := by revert c d; decide

/-- Which device each printed device number names. -/
theorem dev1_eq (c : Dev nD) : (⟨k0_dev1 c, k0_dev1_lt c⟩ : Dev nD) = peer c 0 := Fin.ext (k0_dev1_eq c)
/-- The device that number 2 names is the one 2 places after. -/
theorem dev2_eq (c : Dev nD) : (⟨k0_dev2 c, k0_dev2_lt c⟩ : Dev nD) = peer c 1 := Fin.ext (k0_dev2_eq c)
/-- The device that number 3 names is the one 3 places after. -/
theorem dev3_eq (c : Dev nD) : (⟨k0_dev3 c, k0_dev3_lt c⟩ : Dev nD) = peer c 2 := Fin.ext (k0_dev3_eq c)
/-- The device that number 4 names is the one 2 places after. -/
theorem dev4_eq (c : Dev nD) : (⟨k0_dev4 c, k0_dev4_lt c⟩ : Dev nD) = peer c 1 := Fin.ext (k0_dev4_eq c)
/-- The device that number 5 names is the one 1 place after. -/
theorem dev5_eq (c : Dev nD) : (⟨k0_dev5 c, k0_dev5_lt c⟩ : Dev nD) = peer c 0 := Fin.ext (k0_dev5_eq c)
/-- The device that number 6 names is the one 3 places after. -/
theorem dev6_eq (c : Dev nD) : (⟨k0_dev6 c, k0_dev6_lt c⟩ : Dev nD) = peer c 2 := Fin.ext (k0_dev6_eq c)
/-- The device that number 7 names is the one 2 places after. -/
theorem dev7_eq (c : Dev nD) : (⟨k0_dev7 c, k0_dev7_lt c⟩ : Dev nD) = peer c 1 := Fin.ext (k0_dev7_eq c)
/-- The device that number 8 names is the one 1 place after. -/
theorem dev8_eq (c : Dev nD) : (⟨k0_dev8 c, k0_dev8_lt c⟩ : Dev nD) = peer c 0 := Fin.ext (k0_dev8_eq c)
/-- The device that number 9 names is the one 3 places after. -/
theorem dev9_eq (c : Dev nD) : (⟨k0_dev9 c, k0_dev9_lt c⟩ : Dev nD) = peer c 2 := Fin.ext (k0_dev9_eq c)
/-- The device that number 10 names is the one 2 places after. -/
theorem dev10_eq (c : Dev nD) : (⟨k0_dev10 c, k0_dev10_lt c⟩ : Dev nD) = peer c 1 := Fin.ext (k0_dev10_eq c)
/-- The device that number 11 names is the one 1 place after. -/
theorem dev11_eq (c : Dev nD) : (⟨k0_dev11 c, k0_dev11_lt c⟩ : Dev nD) = peer c 0 := Fin.ext (k0_dev11_eq c)
/-- The device that number 12 names is the one 3 places after. -/
theorem dev12_eq (c : Dev nD) : (⟨k0_dev12 c, k0_dev12_lt c⟩ : Dev nD) = peer c 2 := Fin.ext (k0_dev12_eq c)

/-! ## The rectangles and the memrefs -/

/-- The partial products, the landing slots of the first two layers, the landing slots of the last. -/
abbrev pM : Memref sig .tc .vmem S3x128x128 .bf16 := Memref.whole cc0_scratch0
/-- The slots for the first two layers' arrivals. -/
abbrev gM : Memref sig .tc .vmem S2x3x128x128 .bf16 := Memref.whole cc0_scratch1
/-- The slots for the last layer's arrivals. -/
abbrev rM : Memref sig .tc .vmem S3x32x128 .bf16 := Memref.whole cc0_scratch2

/-- Each partial product lies within its buffer. -/
theorem inbP (r : Fin 3) : ∀ a, (![r.val, 0, 0] : Fin 3 → Nat) a + S1x128x128.size a ≤ S3x128x128.size a := by
  revert r; decide
/-- Each slot of the first two layers lies within its buffer. -/
theorem inbG (r : Fin 2) (j : Fin 3) : ∀ a, (![r.val, j.val, 0, 0] : Fin 4 → Nat) a + S1x1x128x128.size a ≤ S2x3x128x128.size a := by
  revert r j; decide
/-- Each slot of the last layer lies within its buffer. -/
theorem inbR (j : Fin 3) : ∀ a, (![j.val, 0, 0] : Fin 3 → Nat) a + S1x32x128.size a ≤ S3x32x128.size a := by
  revert j; decide
/-- Each device's rows of the last partial product lie within its buffer. -/
theorem inbQ (p : Dev nD) : ∀ a, (![2, 32 * p.val, 0] : Fin 3 → Nat) a + S1x32x128.size a ≤ S3x128x128.size a := by
  revert p; decide

/-- Layer `r`'s partial product; slot `j` of layer `r`; slot `j` of the last layer; device `p`'s 32 rows of the last partial product. -/
abbrev rectP (r : Fin 3) : Rect S3x128x128 := Rect.unit (s := S3x128x128) ![r.val, 0, 0] S1x128x128.size (inbP r)
/-- Slot `j` of layer `r`, among the first two. -/
abbrev rectG (r : Fin 2) (j : Fin 3) : Rect S2x3x128x128 := Rect.unit (s := S2x3x128x128) ![r.val, j.val, 0, 0] S1x1x128x128.size (inbG r j)
/-- Slot `j` of the last layer. -/
abbrev rectR (j : Fin 3) : Rect S3x32x128 := Rect.unit (s := S3x32x128) ![j.val, 0, 0] S1x32x128.size (inbR j)
/-- Device `p`'s rows of the last partial product. -/
abbrev rectQ (p : Dev nD) : Rect S3x128x128 := Rect.unit (s := S3x128x128) ![2, 32 * p.val, 0] S1x32x128.size (inbQ p)

/-- The memrefs the transfers read and write: the rectangles with their unit axes dropped. -/
abbrev memP (r : Fin 3) : Memref sig .tc .vmem S128x128 .bf16 := (pM.slice (rectP r) (fun _ => rfl)).squeeze S128x128 squeezes_S1x128x128_S128x128
/-- The same slot as a reference. -/
abbrev memG (r : Fin 2) (j : Fin 3) : Memref sig .tc .vmem S128x128 .bf16 := (gM.slice (rectG r j) (fun _ => rfl)).squeeze S128x128 squeezes_S1x1x128x128_S128x128
/-- The last layer's slot as a reference. -/
abbrev memR (j : Fin 3) : Memref sig .tc .vmem S32x128 .bf16 := (rM.slice (rectR j) (fun _ => rfl)).squeeze S32x128 squeezes_S1x32x128_S32x128
/-- Device `p`'s rows as a reference. -/
abbrev memQ (p : Dev nD) : Memref sig .tc .vmem S32x128 .bf16 := (pM.slice (rectQ p) (fun _ => rfl)).squeeze S32x128 squeezes_S1x32x128_S32x128

/-- The reference to a partial product covers exactly its rectangle. -/
theorem memP_set (r : Fin 3) : (memP r).view.set = (rectP r).set := by
  rw [Memref.set_view_squeeze]; exact View.set_slice_whole _ _
/-- The reference to a slot of the first two layers covers exactly its rectangle. -/
theorem memG_set (r : Fin 2) (j : Fin 3) : (memG r j).view.set = (rectG r j).set := by
  rw [Memref.set_view_squeeze]; exact View.set_slice_whole _ _
/-- The reference to a slot of the last layer covers exactly its rectangle. -/
theorem memR_set (j : Fin 3) : (memR j).view.set = (rectR j).set := by
  rw [Memref.set_view_squeeze]; exact View.set_slice_whole _ _
/-- The reference to a device's rows covers exactly its rectangle. -/
theorem memQ_set (p : Dev nD) : (memQ p).view.set = (rectQ p).set := by
  rw [Memref.set_view_squeeze]; exact View.set_slice_whole _ _

/-! ## Which elements a rectangle holds -/

/-- A position is in partial product `r` when its first coordinate is `r`. -/
theorem mem_rectP {r : Fin 3} {i : S3x128x128.Idx} : i ∈ (rectP r).set ↔ (i 0).val = r.val := by
  rw [Rect.mem_set_unit]
  have h1 : (i 1).val < 128 := (i 1).isLt
  have h2 : (i 2).val < 128 := (i 2).isLt
  constructor
  · intro h; obtain ⟨ha, hb⟩ := h 0
    simp at ha hb; omega
  · intro h a
    match a with
    | ⟨0, _⟩ => simp; omega
    | ⟨1, _⟩ => simp; omega
    | ⟨2, _⟩ => simp; omega
/-- A position is in slot `j` of layer `r` when its first two coordinates are `r` and `j`. -/
theorem mem_rectG {r : Fin 2} {j : Fin 3} {i : S2x3x128x128.Idx} : i ∈ (rectG r j).set ↔ (i 0).val = r.val ∧ (i 1).val = j.val := by
  rw [Rect.mem_set_unit]
  have h2 : (i 2).val < 128 := (i 2).isLt
  have h3 : (i 3).val < 128 := (i 3).isLt
  constructor
  · intro h; obtain ⟨ha, hb⟩ := h 0; obtain ⟨hc, hd⟩ := h 1
    simp at ha hb hc hd; omega
  · intro h a
    match a with
    | ⟨0, _⟩ => simp; omega
    | ⟨1, _⟩ => simp; omega
    | ⟨2, _⟩ => simp; omega
    | ⟨3, _⟩ => simp; omega
/-- A position is in slot `j` of the last layer when its first coordinate is `j`. -/
theorem mem_rectR {j : Fin 3} {i : S3x32x128.Idx} : i ∈ (rectR j).set ↔ (i 0).val = j.val := by
  rw [Rect.mem_set_unit]
  have h1 : (i 1).val < 32 := (i 1).isLt
  have h2 : (i 2).val < 128 := (i 2).isLt
  constructor
  · intro h; obtain ⟨ha, hb⟩ := h 0
    simp at ha hb; omega
  · intro h a
    match a with
    | ⟨0, _⟩ => simp; omega
    | ⟨1, _⟩ => simp; omega
    | ⟨2, _⟩ => simp; omega
/-- A position is in device `p`'s rows when it is in the last product and its row is in the `p`-th group of 32. -/
theorem mem_rectQ {p : Dev nD} {i : S3x128x128.Idx} : i ∈ (rectQ p).set ↔ (i 0).val = 2 ∧ (i 1).val / 32 = p.val := by
  rw [Rect.mem_set_unit]
  have h1 : (i 1).val < 128 := (i 1).isLt
  have h2 : (i 2).val < 128 := (i 2).isLt
  constructor
  · intro h; obtain ⟨ha, hb⟩ := h 0; obtain ⟨hc, hd⟩ := h 1
    simp at ha hb hc hd; omega
  · intro h a
    match a with
    | ⟨0, _⟩ => simp; omega
    | ⟨1, _⟩ => simp; omega
    | ⟨2, _⟩ => simp; omega

/-- Distinct layers' partial products share no element, and the three cover the buffer. -/
theorem rectP_disjoint (r r' : Fin 3) (h : r ≠ r') : Disjoint (rectP r).set (rectP r').set :=
  Finset.disjoint_left.mpr fun i hi hi' => h (Fin.ext ((mem_rectP.mp hi).symm.trans (mem_rectP.mp hi')))
/-- The three partial products fill their buffer. -/
theorem rectP_cover : Finset.univ.biUnion (fun r : Fin 3 => (rectP r).set) = Finset.univ :=
  Finset.eq_univ_of_forall fun i => Finset.mem_biUnion.mpr ⟨⟨(i 0).val, (i 0).isLt⟩, Finset.mem_univ _, mem_rectP.mpr rfl⟩
/-- The same for the slots of the first two layers, -/
theorem rectG_disjoint (b b' : Fin 2 × Fin 3) (h : b ≠ b') : Disjoint (rectG b.1 b.2).set (rectG b'.1 b'.2).set :=
  Finset.disjoint_left.mpr fun i hi hi' => h (Prod.ext
    (Fin.ext ((mem_rectG.mp hi).1.symm.trans (mem_rectG.mp hi').1)) (Fin.ext ((mem_rectG.mp hi).2.symm.trans (mem_rectG.mp hi').2)))
/-- The six slots of the first two layers fill their buffer. -/
theorem rectG_cover : Finset.univ.biUnion (fun b : Fin 2 × Fin 3 => (rectG b.1 b.2).set) = Finset.univ :=
  Finset.eq_univ_of_forall fun i => Finset.mem_biUnion.mpr ⟨(⟨(i 0).val, (i 0).isLt⟩, ⟨(i 1).val, (i 1).isLt⟩), Finset.mem_univ _, mem_rectG.mpr ⟨rfl, rfl⟩⟩
/-- for the slots of the last layer, -/
theorem rectR_disjoint (j j' : Fin 3) (h : j ≠ j') : Disjoint (rectR j).set (rectR j').set :=
  Finset.disjoint_left.mpr fun i hi hi' => h (Fin.ext ((mem_rectR.mp hi).symm.trans (mem_rectR.mp hi')))
/-- The three slots of the last layer fill their buffer. -/
theorem rectR_cover : Finset.univ.biUnion (fun j : Fin 3 => (rectR j).set) = Finset.univ :=
  Finset.eq_univ_of_forall fun i => Finset.mem_biUnion.mpr ⟨⟨(i 0).val, (i 0).isLt⟩, Finset.mem_univ _, mem_rectR.mpr rfl⟩
/-- and for the four blocks of rows of the last partial product. -/
theorem rectQ_disjoint (p p' : Dev nD) (h : p ≠ p') : Disjoint (rectQ p).set (rectQ p').set :=
  Finset.disjoint_left.mpr fun i hi hi' => h (Fin.ext ((mem_rectQ.mp hi).2.symm.trans (mem_rectQ.mp hi').2))
/-- The rows of the four devices fill the last partial product. -/
theorem rectQ_cover : Finset.univ.biUnion (fun p : Dev nD => (rectQ p).set) = (rectP 2).set := by
  ext i
  have h1 : (i 1).val < 128 := (i 1).isLt
  simp only [Finset.mem_biUnion, Finset.mem_univ, true_and]
  constructor
  · rintro ⟨p, hp⟩; exact mem_rectP.mpr (mem_rectQ.mp hp).1
  · intro h; exact ⟨⟨(i 1).val / 32, by show _ < 4; omega⟩, mem_rectQ.mpr ⟨mem_rectP.mp h, rfl⟩⟩

/-! ## Contents -/

/-- The argument shards of device `c` as they are staged: the activations, the three input weights, the three output weights. -/
def xs (c : Dev nD) : Vec F S128x128 .f32 := (win0_0.blk (0 : Fin 1)).view.read (Elt F) ((s₀ m ρ).mem ((c : Thread nD τ).loc main_arg0))
/-- The first layer's first weight block on device `c`. -/
def wi0 (c : Dev nD) : Vec F S128x256 .f32 := (win0_1.blk (0 : Fin 1)).view.read (Elt F) ((s₀ m ρ).mem ((c : Thread nD τ).loc main_arg1))
/-- The first layer's second weight block on device `c`. -/
def wo0 (c : Dev nD) : Vec F S256x128 .f32 := (win0_2.blk (0 : Fin 1)).view.read (Elt F) ((s₀ m ρ).mem ((c : Thread nD τ).loc main_arg4))
/-- The second layer's first weight block on device `c`. -/
def wi1 (c : Dev nD) : Vec F S128x256 .f32 := (win0_3.blk (0 : Fin 1)).view.read (Elt F) ((s₀ m ρ).mem ((c : Thread nD τ).loc main_arg2))
/-- The second layer's second weight block on device `c`. -/
def wo1 (c : Dev nD) : Vec F S256x128 .f32 := (win0_4.blk (0 : Fin 1)).view.read (Elt F) ((s₀ m ρ).mem ((c : Thread nD τ).loc main_arg5))
/-- The last layer's first weight block on device `c`. -/
def wi2 (c : Dev nD) : Vec F S128x256 .f32 := (win0_5.blk (0 : Fin 1)).view.read (Elt F) ((s₀ m ρ).mem ((c : Thread nD τ).loc main_arg3))
/-- The last layer's second weight block on device `c`. -/
def wo2 (c : Dev nD) : Vec F S256x128 .f32 := (win0_6.blk (0 : Fin 1)).view.read (Elt F) ((s₀ m ρ).mem ((c : Thread nD τ).loc main_arg6))

/-- A partial product as it reads in a landing slot: one more unit axis. -/
def slotG (q : Vec F S1x128x128 .bf16) : Vec F S1x1x128x128 .bf16 := fun y => q (ix3 (0 : Fin 1) (y 2) (y 3))
/-- The 32 rows of a partial product that device `p` gathers. -/
def slotR (p : Dev nD) (q : Vec F S1x128x128 .bf16) : Vec F S1x32x128 .bf16 := fun y =>
  q (ix3 (0 : Fin 1) (⟨32 * p.val + (y 1).val, by have h : (y 1).val < 32 := (y 1).isLt; have hp : p.val < 4 := p.isLt; omega⟩ : Fin 128) (y 2))

/-- Device `c`'s partial product of the first layer, without and with its unit axis. -/
def h0 (c : Dev nD) : Vec F S128x128 .bf16 := k0_pay7 (k0_pay1 (wi0 m ρ c)) (k0_pay4 (wo0 m ρ c)) (xs m ρ c)
/-- The first layer's partial product as it is sent. -/
def q0 (c : Dev nD) : Vec F S1x128x128 .bf16 := k0_pay8 (k0_pay1 (wi0 m ρ c)) (k0_pay4 (wo0 m ρ c)) (xs m ρ c)
/-- The sum of the first layer before its last summand. -/
def a0 (c : Dev nD) : Vec F S128x128 .bf16 := k0_pay9 (h0 m ρ c) (slotG (q0 m ρ (back c 0))) (slotG (q0 m ρ (back c 2)))
/-- The same of the second layer. -/
def h1 (c : Dev nD) : Vec F S128x128 .bf16 := k0_pay10 (k0_pay2 (wi1 m ρ c)) (k0_pay5 (wo1 m ρ c)) (a0 m ρ c) (slotG (q0 m ρ (back c 1)))
/-- The second layer's partial product as it is sent. -/
def q1 (c : Dev nD) : Vec F S1x128x128 .bf16 := k0_pay11 (k0_pay2 (wi1 m ρ c)) (k0_pay5 (wo1 m ρ c)) (a0 m ρ c) (slotG (q0 m ρ (back c 1)))
/-- The sum of the second layer before its last summand. -/
def a1 (c : Dev nD) : Vec F S128x128 .bf16 := k0_pay12 (h1 m ρ c) (slotG (q1 m ρ (back c 0))) (slotG (q1 m ρ (back c 2)))
/-- Device `c`'s partial product of the last layer. -/
def q2 (c : Dev nD) : Vec F S1x128x128 .bf16 := k0_pay13 (k0_pay3 (wi2 m ρ c)) (k0_pay6 (wo2 m ρ c)) (a1 m ρ c) (slotG (q1 m ρ (back c 1)))
/-- The sum of the last layer's rows after its second summand, and the result: the rows of all four devices added up. -/
def b2 (c : Dev nD) : Vec F S32x128 .f32 := k0_pay14 (slotR c (q2 m ρ c)) (slotR c (q2 m ρ (back c 0)))
/-- Device `c`'s result: its own rows of the last products of all four devices, added up. -/
def out (c : Dev nD) : Vec F S32x128 .f32 := k0_pay15 (b2 m ρ c) (slotR c (q2 m ρ (back c 2))) (slotR c (q2 m ρ (back c 1)))

/-- Layer `r`'s partial product. -/
def qq (r : Fin 3) (c : Dev nD) : Vec F S1x128x128 .bf16 := match r with | 0 => q0 m ρ c | 1 => q1 m ρ c | 2 => q2 m ρ c

/-- What the three scratch buffers of device `c` hold when every layer is done. -/
def conP (c : Dev nD) : Vec F S3x128x128 .bf16 := fun i => qq m ρ (i 0) c (ix3 (0 : Fin 1) (i 1) (i 2))
/-- The slots of the first two layers: slot `j` holds the product of the device `j + 1` places before. -/
def conG (c : Dev nD) : Vec F S2x3x128x128 .bf16 := fun i =>
  qq m ρ (⟨(i 0).val, Nat.lt_of_lt_of_le (i 0).isLt (by decide)⟩ : Fin 3) (back c (i 1)) (ix3 (0 : Fin 1) (i 2) (i 3))
/-- The slots of the last layer: slot `j` holds this device's rows of that device's product. -/
def conR (c : Dev nD) : Vec F S3x32x128 .bf16 := fun i => slotR c (q2 m ρ (back c (i 0))) (ix3 (0 : Fin 1) (i 1) (i 2))

/-! ## Stores, transfers and loads, element by element -/

/-- Where an element of a squeezed slot lies in its buffer. -/
theorem emb_memP (r : Fin 3) (a b : Fin 128) : (memP r).view.emb (ix2 a b) = (ix3 r a b : S3x128x128.Idx) := by
  show (rectP r).emb (Shape.reshapeEquiv _ (ix2 a b)) = _
  rw [reshapeEquiv_ix2_1ab]
  funext d; apply Fin.ext
  match d with
  | ⟨0, _⟩ => rw [Rect.emb_apply]; simp
  | ⟨1, _⟩ => rw [Rect.emb_apply]; simp
  | ⟨2, _⟩ => rw [Rect.emb_apply]; simp
/-- Position `(a, b)` of a slot of the first two layers, within its buffer. -/
theorem emb_memG (r : Fin 2) (j : Fin 3) (a b : Fin 128) : (memG r j).view.emb (ix2 a b) = (ix4 r j a b : S2x3x128x128.Idx) := by
  show (rectG r j).emb (Shape.reshapeEquiv _ (ix2 a b)) = _
  rw [reshapeEquiv_ix2_11ab]
  funext d; apply Fin.ext
  match d with
  | ⟨0, _⟩ => rw [Rect.emb_apply]; simp
  | ⟨1, _⟩ => rw [Rect.emb_apply]; simp
  | ⟨2, _⟩ => rw [Rect.emb_apply]; simp
  | ⟨3, _⟩ => rw [Rect.emb_apply]; simp
/-- Position `(a, b)` of a slot of the last layer, within its buffer. -/
theorem emb_memR (j : Fin 3) (a : Fin 32) (b : Fin 128) : (memR j).view.emb (ix2 a b) = (ix3 j a b : S3x32x128.Idx) := by
  show (rectR j).emb (Shape.reshapeEquiv _ (ix2 a b)) = _
  rw [reshapeEquiv_ix2_1ab]
  funext d; apply Fin.ext
  match d with
  | ⟨0, _⟩ => rw [Rect.emb_apply]; simp
  | ⟨1, _⟩ => rw [Rect.emb_apply]; simp
  | ⟨2, _⟩ => rw [Rect.emb_apply]; simp
/-- Row `a` of device `p`'s block of rows. -/
def rowOf (p : Dev nD) (a : Fin 32) : Fin 128 := ⟨32 * p.val + a.val, by have h := a.isLt; have hp : p.val < 4 := p.isLt; omega⟩
/-- Position `(a, b)` of a device's rows, within the buffer of products. -/
theorem emb_memQ (p : Dev nD) (a : Fin 32) (b : Fin 128) : (memQ p).view.emb (ix2 a b) = (ix3 (2 : Fin 3) (rowOf p a) b : S3x128x128.Idx) := by
  show (rectQ p).emb (Shape.reshapeEquiv _ (ix2 a b)) = _
  rw [reshapeEquiv_ix2_1ab]
  funext d; apply Fin.ext
  match d with
  | ⟨0, _⟩ => rw [Rect.emb_apply]; simp
  | ⟨1, _⟩ => rw [Rect.emb_apply]; simp [rowOf]
  | ⟨2, _⟩ => rw [Rect.emb_apply]; simp

/-- Storing layer `r`'s partial product leaves the buffer's final contents on that layer's elements. -/
theorem store_conP (r : Fin 3) (c : Dev nD) (f : (cc0_scratch0 : Ref sig .tc).ty.Contents (Elt F)) :
    ∀ i ∈ (rectP r).set, (pM.access (rectP r)).write (Elt F) f (qq m ρ r c) Finset.univ i = conP m ρ c i := by
  intro i hi
  rw [← Rect.map_emb_univ, Finset.mem_map] at hi
  obtain ⟨x, -, rfl⟩ := hi
  refine (View.write_emb_of_mem (v := pM.access (rectP r)) f (qq m ρ r c) (Finset.mem_univ x)).trans ?_
  show qq m ρ r c x = qq m ρ ((rectP r).emb x 0) c (ix3 (0 : Fin 1) ((rectP r).emb x 1) ((rectP r).emb x 2))
  have z0 : (x 0).val = 0 := Nat.lt_one_iff.mp (x 0).isLt
  have e0 : (rectP r).emb x 0 = r := Fin.ext (by rw [Rect.emb_apply]; simp [z0])
  rw [e0]
  congr 1
  funext d; apply Fin.ext
  match d with
  | ⟨0, _⟩ => exact z0
  | ⟨1, _⟩ => simp
  | ⟨2, _⟩ => simp

/-- A transfer of layer `r` (0 or 1) from device `c` leaves in slot `j` of the device it goes to that buffer's final contents. -/
theorem land_conG (r : Fin 2) (j : Fin 3) (c : Dev nD) (f : (cc0_scratch1 : Ref sig .tc).ty.Contents (Elt F)) :
    ∀ i ∈ (memG r j).view.set, (memG r j).view.write (Elt F) f ((memP (r.castSucc)).view.read (Elt F) (conP m ρ c)) Finset.univ i = conG m ρ (peer c j) i := by
  intro i hi
  obtain ⟨x, -, rfl⟩ := Finset.mem_map.mp hi
  refine (View.write_emb_of_mem (v := (memG r j).view) f _ (Finset.mem_univ x)).trans ?_
  obtain ⟨a, b, rfl⟩ : ∃ a b : Fin 128, x = ix2 a b := ⟨x 0, x 1, eq_ix2 x⟩
  rw [emb_memG]
  show conP m ρ c ((memP r.castSucc).view.emb (ix2 a b)) = conG m ρ (peer c j) (ix4 r j a b)
  rw [emb_memP]
  show qq m ρ r.castSucc c (ix3 0 a b) = qq m ρ r.castSucc (back (peer c j) j) (ix3 0 a b)
  rw [back_peer]

/-- A transfer of the last layer likewise: block of rows `peer c j`, into slot `j` of device `peer c j`. -/
theorem land_conR (j : Fin 3) (c : Dev nD) (f : (cc0_scratch2 : Ref sig .tc).ty.Contents (Elt F)) :
    ∀ i ∈ (memR j).view.set, (memR j).view.write (Elt F) f ((memQ (peer c j)).view.read (Elt F) (conP m ρ c)) Finset.univ i = conR m ρ (peer c j) i := by
  intro i hi
  obtain ⟨x, -, rfl⟩ := Finset.mem_map.mp hi
  refine (View.write_emb_of_mem (v := (memR j).view) f _ (Finset.mem_univ x)).trans ?_
  obtain ⟨a, b, rfl⟩ : ∃ (a : Fin 32) (b : Fin 128), x = ix2 a b := ⟨x 0, x 1, eq_ix2 x⟩
  rw [emb_memR]
  show conP m ρ c ((memQ (peer c j)).view.emb (ix2 a b)) = conR m ρ (peer c j) (ix3 j a b)
  rw [emb_memQ]
  show q2 m ρ c (ix3 0 (rowOf (peer c j) a) b) = q2 m ρ (back (peer c j) j) (ix3 0 (rowOf (peer c j) a) b)
  rw [back_peer]

/-- What a load of slot `j` of layer `r` reads off the final contents, -/
theorem load_conG (r : Fin 2) (j : Fin 3) (c : Dev nD) :
    gM.view.readAt (Elt F) (rectG r j).toLoadRect (conG m ρ c) = slotG (qq m ρ r.castSucc (back c j)) := by
  funext y
  show conG m ρ c ((rectG r j).emb y) = _
  have z0 : (y 0).val = 0 := Nat.lt_one_iff.mp (y 0).isLt
  have z1 : (y 1).val = 0 := Nat.lt_one_iff.mp (y 1).isLt
  have e0 : (rectG r j).emb y 0 = r := Fin.ext (by rw [Rect.emb_apply]; simp [z0])
  have e1 : (rectG r j).emb y 1 = j := Fin.ext (by rw [Rect.emb_apply]; simp [z1])
  have e2 : (rectG r j).emb y 2 = y 2 := Fin.ext (by rw [Rect.emb_apply]; simp)
  have e3 : (rectG r j).emb y 3 = y 3 := Fin.ext (by rw [Rect.emb_apply]; simp)
  unfold conG slotG
  simp only [e0, e1, e2, e3]
  rfl
/-- of slot `j` of the last layer, -/
theorem load_conR (j : Fin 3) (c : Dev nD) :
    rM.view.readAt (Elt F) (rectR j).toLoadRect (conR m ρ c) = slotR c (q2 m ρ (back c j)) := by
  funext y
  show conR m ρ c ((rectR j).emb y) = _
  have z0 : (y 0).val = 0 := Nat.lt_one_iff.mp (y 0).isLt
  have e0 : (rectR j).emb y 0 = j := Fin.ext (by rw [Rect.emb_apply]; simp [z0])
  have e1 : (rectR j).emb y 1 = y 1 := Fin.ext (by rw [Rect.emb_apply]; simp)
  have e2 : (rectR j).emb y 2 = y 2 := Fin.ext (by rw [Rect.emb_apply]; simp)
  unfold conR
  simp only [e0, e1, e2]
  rfl
/-- and of a device's own rows of its last partial product. -/
theorem load_conQ (c : Dev nD) :
    pM.view.readAt (Elt F) (rectQ c).toLoadRect (conP m ρ c) = slotR c (q2 m ρ c) := by
  funext y
  show conP m ρ c ((rectQ c).emb y) = _
  have z0 : (y 0).val = 0 := Nat.lt_one_iff.mp (y 0).isLt
  have e0 : (rectQ c).emb y 0 = (2 : Fin 3) := Fin.ext (by rw [Rect.emb_apply]; simp [z0])
  have e1 : (rectQ c).emb y 1 = rowOf c (y 1) := Fin.ext (by rw [Rect.emb_apply]; simp [rowOf])
  have e2 : (rectQ c).emb y 2 = y 2 := Fin.ext (by rw [Rect.emb_apply]; simp)
  unfold conP
  simp only [e0, e1, e2]
  rfl

end Cert.KernelIdeal.Mlp
-- ==== Proof.KernelIdeal.Sched.lean ====
/-
# The schedule of signals and transfers

Every device owns one barrier semaphore, nine semaphores its own transfers complete on and nine that arriving
transfers complete on. This module says what each of them is worth: who pays it, how much, and which part of which
buffer changes hands. It also fixes the order in which a device pays what it owes and the levels that keep waiting
devices from waiting on each other in a circle.
-/
module

public import proofs.«01_k».proof.Proof.KernelIdeal.Contents

@[expose] public section

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state: the pipeline's own, and rounds whose duties are named by direction. -/
abbrev UB : Type := URounds (GSem nD τ sig) (Fin 3)
/-- The two together. -/
abbrev UU : Type := UR sig nD τ × UB

local notation "𝕄" => MT nD τ sig Unit (Elt F) ℕ UU ℕ

/-- Where the pipeline's part lies in the whole state. -/
abbrev EP : Emb (UR sig nD τ) (MT nD τ sig Unit (Elt F) ℕ UU ℕ) := embL
/-- Where the rounds' part lies in the whole state. -/
abbrev ER : Emb UB (MT nD τ sig Unit (Elt F) ℕ UU ℕ) := embR

variable (m : (ℓ : Loc nD τ sig) → Buf (Elt F) ℓ) (ρ : Dev nD → PrngReg)

/-! ## Semaphores and cells -/

/-- The barrier semaphore, and for each of the nine transfers the semaphore it completes on at its source and at its target. -/
abbrev barS : Sem sig := (SemArray.scalar (sig.barrier 0 rfl) : Sems sig S_).sem
/-- The semaphore that transfer `k` raises where it starts. -/
abbrev sS (k : Fin 9) : DmaSem sig := ⟨8 + k.val, by have h := k.isLt; show _ < 26; omega⟩
/-- The semaphore that transfer `k` raises where it lands. -/
abbrev vS (k : Fin 9) : DmaSem sig := ⟨17 + k.val, by have h := k.isLt; show _ < 26; omega⟩

/-- The barrier semaphore of device `c`. -/
abbrev barCell (c : Dev nD) : GSem nD τ sig := ((c : Thread nD τ), .reg barS)
/-- The departure semaphore of transfer `k` on device `c`. -/
abbrev sCell (c : Dev nD) (k : Fin 9) : GSem nD τ sig := ((c : Thread nD τ), .dma (sS k))
/-- The arrival semaphore of transfer `k` on device `c`. -/
abbrev vCell (c : Dev nD) (k : Fin 9) : GSem nD τ sig := ((c : Thread nD τ), .dma (vS k))

/-- The number of transfer `j` of layer `r` (0 or 1), and of transfer `j` of the last layer. -/
abbrev kG (r : Fin 2) (j : Fin 3) : Fin 9 := ⟨3 * r.val + j.val, by have h := r.isLt; have h' := j.isLt; omega⟩
/-- The number of the last layer's transfer `j`. -/
abbrev kR (j : Fin 3) : Fin 9 := ⟨6 + j.val, by have h' := j.isLt; omega⟩

/-- What one transfer credits: of a whole partial product, of a block of its rows. -/
abbrev NG : ℕ := (memG 0 0).view.dmaCredit
/-- What a transfer of 32 rows raises a semaphore by. -/
abbrev NR : ℕ := (memR 0).view.dmaCredit
/-- A transfer of a whole product raises its semaphores. -/
theorem NG_pos : 0 < NG := View.dmaCredit_pos _ (by decide)
/-- A transfer of 32 rows raises its semaphores. -/
theorem NR_pos : 0 < NR := View.dmaCredit_pos _ (by decide)
/-- A slot of the first two layers counts as a whole product. -/
theorem creditG (r : Fin 2) (j : Fin 3) : (memG r j).view.dmaCredit = NG := rfl
/-- A partial product counts as a whole product. -/
theorem creditP (r : Fin 3) : (memP r).view.dmaCredit = NG := rfl
/-- A slot of the last layer counts as 32 rows. -/
theorem creditR (j : Fin 3) : (memR j).view.dmaCredit = NR := rfl
/-- A device's rows count as 32 rows. -/
theorem creditQ (p : Dev nD) : (memQ p).view.dmaCredit = NR := rfl
/-- What transfer `k` raises its two semaphores by. -/
def xamt (k : Fin 9) : ℕ := if k.val < 6 then NG else NR
/-- Every transfer raises its semaphores. -/
theorem xamt_pos (k : Fin 9) : 0 < xamt k := by unfold xamt; split; exact NG_pos; exact NR_pos

/-! ## What changes hands -/

/-- The share of a partial product that transfer `j` reads it at: the three together are the whole. -/
def shareOf (j : Fin 3) : PosShare TreeShare := match j with
  | 0 => fullShare.left | 1 => fullShare.right.left | 2 => fullShare.right.right

/-- Layer `r`'s partial product at transfer `j`'s share; the rows of the last one that go to transfer `j`'s target. -/
def ptsP (c : Dev nD) (r : Fin 3) (q : PosShare TreeShare) : sProp 𝕄 :=
  (memP r).view.loc (c : Thread nD τ) ↦[(memP r).view.set]{q} (conP m ρ c)
/-- Device `p`'s rows of the last product of `c`. -/
def ptsQ (c p : Dev nD) : sProp 𝕄 :=
  (memQ p).view.loc (c : Thread nD τ) ↦[(memQ p).view.set]{fullShare} (conP m ρ c)
/-- A landing slot with what has landed in it, -/
def ptsG (c : Dev nD) (r : Fin 2) (j : Fin 3) : sProp 𝕄 :=
  (memG r j).view.loc (c : Thread nD τ) ↦[(memG r j).view.set]{fullShare} (conG m ρ c)
/-- A slot of the last layer with what has landed in it. -/
def ptsR (c : Dev nD) (j : Fin 3) : sProp 𝕄 :=
  (memR j).view.loc (c : Thread nD τ) ↦[(memR j).view.set]{fullShare} (conR m ρ c)
/-- and before, with anything in it. -/
def anyG (c : Dev nD) (r : Fin 2) (j : Fin 3) : sProp 𝕄 :=
  iprop(∃ f, (memG r j).view.loc (c : Thread nD τ) ↦[(memG r j).view.set]{fullShare} f)
/-- A slot of the last layer with anything in it. -/
def anyR (c : Dev nD) (j : Fin 3) : sProp 𝕄 :=
  iprop(∃ f, (memR j).view.loc (c : Thread nD τ) ↦[(memR j).view.set]{fullShare} f)

/-- What is held of a product may be left at a semaphore. -/
instance ptsP_storable (c r q) : BI.Storable (upEmb : UEmb _ 𝕄) (ptsP m ρ c r q) := by unfold ptsP; infer_instance
/-- What is held of a device's rows may be left at a semaphore. -/
instance ptsQ_storable (c p) : BI.Storable (upEmb : UEmb _ 𝕄) (ptsQ m ρ c p) := by unfold ptsQ; infer_instance
/-- A filled slot of the first two layers may be left at a semaphore. -/
instance ptsG_storable (c r j) : BI.Storable (upEmb : UEmb _ 𝕄) (ptsG m ρ c r j) := by unfold ptsG; infer_instance
/-- A filled slot of the last layer may be left at a semaphore. -/
instance ptsR_storable (c j) : BI.Storable (upEmb : UEmb _ 𝕄) (ptsR m ρ c j) := by unfold ptsR; infer_instance
omit [FloatOps F] in
/-- An empty slot of the first two layers may be left at a semaphore. -/
instance anyG_storable (c r j) : BI.Storable (upEmb : UEmb _ 𝕄) (anyG (F := F) c r j) := by unfold anyG; infer_instance
omit [FloatOps F] in
/-- An empty slot of the last layer may be left at a semaphore. -/
instance anyR_storable (c j) : BI.Storable (upEmb : UEmb _ 𝕄) (anyR (F := F) c j) := by unfold anyR; infer_instance

/-- Slot `j` of every layer at device `p`: what `p` lends the device whose transfers land there. -/
def slots (p : Dev nD) (j : Fin 3) : sProp 𝕄 := iprop(anyG p 0 j ∗ anyG p 1 j ∗ anyR p j)
/-- The barrier's payload `d` at `c`: the slots in which transfer `2 - d` of `c` lands, on the device `d + 1` places before `c`. -/
def barPay (c : Dev nD) (d : Fin 3) : sProp 𝕄 := slots (back c d) d.rev
/-- What a transfer gives back at its source and hands over at its target. -/
def sendPay (c : Dev nD) (k : Fin 9) : sProp 𝕄 := match k with
  | 0 => ptsP m ρ c 0 (shareOf 0) | 1 => ptsP m ρ c 0 (shareOf 1) | 2 => ptsP m ρ c 0 (shareOf 2)
  | 3 => ptsP m ρ c 1 (shareOf 0) | 4 => ptsP m ρ c 1 (shareOf 1) | 5 => ptsP m ρ c 1 (shareOf 2)
  | 6 => ptsQ m ρ c (peer c 0) | 7 => ptsQ m ρ c (peer c 1) | 8 => ptsQ m ρ c (peer c 2)
/-- What the arrival of transfer `k` hands the device it lands on: the filled slot. -/
def recvPay (c : Dev nD) (k : Fin 9) : sProp 𝕄 := match k with
  | 0 => ptsG m ρ c 0 0 | 1 => ptsG m ρ c 0 1 | 2 => ptsG m ρ c 0 2
  | 3 => ptsG m ρ c 1 0 | 4 => ptsG m ρ c 1 1 | 5 => ptsG m ρ c 1 2
  | 6 => ptsR m ρ c 0 | 7 => ptsR m ρ c 1 | 8 => ptsR m ρ c 2

omit [FloatOps F] in
/-- What the barrier hands over may be left at a semaphore. -/
instance barPay_storable (c d) : BI.Storable (upEmb : UEmb _ 𝕄) (barPay (F := F) c d) := by unfold barPay slots; infer_instance
/-- What a departure hands back may be left at a semaphore. -/
instance sendPay_storable (c k) : BI.Storable (upEmb : UEmb _ 𝕄) (sendPay m ρ c k) := by
  unfold sendPay; split <;> infer_instance
/-- What an arrival hands over may be left at a semaphore. -/
instance recvPay_storable (c k) : BI.Storable (upEmb : UEmb _ 𝕄) (recvPay m ρ c k) := by
  unfold recvPay; split <;> infer_instance

/-- A departure of the first two layers hands back that transfer's share of the product. -/
theorem sendPay_kG (c : Dev nD) (r : Fin 2) (j : Fin 3) : sendPay m ρ c (kG r j) = ptsP m ρ c r.castSucc (shareOf j) := by
  fin_cases r <;> fin_cases j <;> rfl
/-- A departure of the last layer hands back the rows that went. -/
theorem sendPay_kR (c : Dev nD) (j : Fin 3) : sendPay m ρ c (kR j) = ptsQ m ρ c (peer c j) := by
  fin_cases j <;> rfl
/-- An arrival of the first two layers hands over the filled slot. -/
theorem recvPay_kG (c : Dev nD) (r : Fin 2) (j : Fin 3) : recvPay m ρ c (kG r j) = ptsG m ρ c r j := by
  fin_cases r <;> fin_cases j <;> rfl
/-- An arrival of the last layer hands over the filled slot. -/
theorem recvPay_kR (c : Dev nD) (j : Fin 3) : recvPay m ρ c (kR j) = ptsR m ρ c j := by
  fin_cases j <;> rfl
/-- A transfer of the first two layers moves a whole product. -/
theorem xamt_kG (r : Fin 2) (j : Fin 3) : xamt (kG r j) = NG := by
  unfold xamt; exact if_pos (by have h := r.isLt; have h' := j.isLt; show 3 * r.val + j.val < 6; omega)
/-- A transfer of the last layer moves 32 rows. -/
theorem xamt_kR (j : Fin 3) : xamt (kR j) = NR := by
  unfold xamt; exact if_neg (by show ¬ (6 + j.val < 6); omega)

/-! ## The schedule -/

/-- The duties of a semaphore: three on the barrier, one on each transfer's two. -/
def dutyOf (sm : SemLoc sig) : Finset (Fin 3) := match sm with
  | .reg s => if s = barS then Finset.univ else ∅
  | .dma q => if 8 ≤ q.val then {0} else ∅
/-- What one payment raises a semaphore by. -/
def amtOf (sm : SemLoc sig) : ℕ := match sm with
  | .reg _ => 1
  | .dma q => if q.val < 14 ∨ (17 ≤ q.val ∧ q.val < 23) then NG else NR
/-- What one payment leaves at a semaphore. -/
def payOf (c : Dev nD) (sm : SemLoc sig) (d : Fin 3) : sProp 𝕄 := match sm with
  | .reg _ => barPay c d
  | .dma q =>
    if h : 8 ≤ q.val ∧ q.val < 17 then sendPay m ρ c ⟨q.val - 8, by omega⟩
    else if h : 17 ≤ q.val ∧ q.val < 26 then recvPay m ρ c ⟨q.val - 17, by omega⟩
    else iprop(emp)

/-- Whatever a payment leaves may be left at a semaphore. -/
instance payOf_storable (c sm d) : BI.Storable (upEmb : UEmb _ 𝕄) (payOf m ρ c sm d) := by
  unfold payOf; (repeat' split) <;> infer_instance

/-- One round on every semaphore of every device's TensorCore. -/
def Rd : Rounds.Schedule (GSem nD τ sig) (Fin 3) 𝕄 where
  duties g r := if r = 0 ∧ g.1.2 = .tc then dutyOf g.2 else ∅
  unitless _ := False
  amount g _ _ := amtOf g.2
  payload g _ d := payOf m ρ g.1.1 g.2 d
  amount_pos g _ _ _ := by
    unfold amtOf
    split
    · exact Nat.one_pos
    · split
      · exact NG_pos
      · exact NR_pos

/-- Whatever the schedule has a payment leave may be left at a semaphore. -/
instance Rd_payload_storable (g : GSem nD τ sig) (r : ℕ) (d : Fin 3) :
    BI.Storable (upEmb : UEmb _ 𝕄) ((Rd (F := F) m ρ).payload g r d) := by
  show BI.Storable upEmb (payOf m ρ g.1.1 g.2 d); infer_instance

section Table
variable (c : Dev nD)

/-- The barrier is paid from each of the three directions. -/
theorem duties_bar : (Rd (F := F) m ρ).duties (barCell c) 0 = Finset.univ := by
  dsimp only [Rd]; rw [if_pos ⟨rfl, rfl⟩]; unfold dutyOf; exact if_pos rfl
/-- A departure semaphore is paid once. -/
theorem duties_s (k : Fin 9) : (Rd (F := F) m ρ).duties (sCell c k) 0 = {0} := by
  dsimp only [Rd]; rw [if_pos ⟨rfl, rfl⟩]; exact if_pos (by show 8 ≤ 8 + k.val; omega)
/-- An arrival semaphore is paid once. -/
theorem duties_v (k : Fin 9) : (Rd (F := F) m ρ).duties (vCell c k) 0 = {0} := by
  dsimp only [Rd]; rw [if_pos ⟨rfl, rfl⟩]; exact if_pos (by show 8 ≤ 17 + k.val; omega)
/-- After its first round no semaphore is paid. -/
theorem duties_later (g : GSem nD τ sig) : ∀ r, 1 ≤ r → (Rd (F := F) m ρ).duties g r = ∅ :=
  fun r hr => by dsimp only [Rd]; rw [if_neg fun h => by omega]

/-- Each payment to the barrier is one. -/
theorem amount_bar (d : Fin 3) : (Rd (F := F) m ρ).amount (barCell c) 0 d = 1 := rfl
/-- The payment to a departure semaphore is its transfer's amount. -/
theorem amount_s (k : Fin 9) (d : Fin 3) : (Rd (F := F) m ρ).amount (sCell c k) 0 d = xamt k := by
  have h := k.isLt
  show amtOf (.dma (sS k)) = xamt k
  unfold amtOf xamt
  show (if 8 + k.val < 14 ∨ (17 ≤ 8 + k.val ∧ 8 + k.val < 23) then NG else NR) = _
  by_cases hk : k.val < 6
  · rw [if_pos (.inl (by omega)), if_pos hk]
  · rw [if_neg (by omega), if_neg hk]
/-- The payment to an arrival semaphore is its transfer's amount. -/
theorem amount_v (k : Fin 9) (d : Fin 3) : (Rd (F := F) m ρ).amount (vCell c k) 0 d = xamt k := by
  have h := k.isLt
  show amtOf (.dma (vS k)) = xamt k
  unfold amtOf xamt
  show (if 17 + k.val < 14 ∨ (17 ≤ 17 + k.val ∧ 17 + k.val < 23) then NG else NR) = _
  by_cases hk : k.val < 6
  · rw [if_pos (.inr (by omega)), if_pos hk]
  · rw [if_neg (by omega), if_neg hk]

/-- What the payment from direction `d` leaves at the barrier. -/
theorem payload_bar (d : Fin 3) : (Rd (F := F) m ρ).payload (barCell c) 0 d = barPay c d := rfl
/-- What the payment leaves at a departure semaphore. -/
theorem payload_s (k : Fin 9) (d : Fin 3) : (Rd (F := F) m ρ).payload (sCell c k) 0 d = sendPay m ρ c k := by
  have h := k.isLt
  show payOf m ρ c (.dma (sS k)) d = _
  unfold payOf
  refine (dif_pos (show 8 ≤ 8 + k.val ∧ 8 + k.val < 17 by omega)).trans ?_
  congr 1; exact Fin.ext (by show 8 + k.val - 8 = k.val; omega)
/-- What the payment leaves at an arrival semaphore. -/
theorem payload_v (k : Fin 9) (d : Fin 3) : (Rd (F := F) m ρ).payload (vCell c k) 0 d = recvPay m ρ c k := by
  have h := k.isLt
  show payOf m ρ c (.dma (vS k)) d = _
  unfold payOf
  refine (dif_neg (show ¬ (8 ≤ 17 + k.val ∧ 17 + k.val < 17) by omega)).trans ((dif_pos (show 17 ≤ 17 + k.val ∧ 17 + k.val < 26 by omega)).trans ?_)
  congr 1; exact Fin.ext (by show 17 + k.val - 17 = k.val; omega)

/-- The barrier comes to three. -/
theorem expect_bar : (Rd (F := F) m ρ).expect (barCell c) 0 = 3 := by
  unfold Schedule.expect Schedule.amountOf
  rw [duties_bar, Finset.sum_congr rfl fun d _ => amount_bar m ρ c d]; rfl
/-- A departure semaphore comes to its transfer's amount. -/
theorem expect_s (k : Fin 9) : (Rd (F := F) m ρ).expect (sCell c k) 0 = xamt k := by
  unfold Schedule.expect Schedule.amountOf; rw [duties_s, Finset.sum_singleton, amount_s]
/-- An arrival semaphore comes to its transfer's amount. -/
theorem expect_v (k : Fin 9) : (Rd (F := F) m ρ).expect (vCell c k) 0 = xamt k := by
  unfold Schedule.expect Schedule.amountOf; rw [duties_v, Finset.sum_singleton, amount_v]

/-- What a wait hands over: the barrier's three payloads, named by the transfer they are for; a transfer's one. -/
theorem rest_bar : bigSep ((Rd (F := F) m ρ).duties (barCell c) 0 \ ∅) (fun d => (Rd (F := F) m ρ).payload (barCell c) 0 d)
    = iprop(slots (peer c 2) 2 ∗ slots (peer c 1) 1 ∗ slots (peer c 0) 0) := by
  rw [Finset.sdiff_empty, duties_bar, bigSep_univ_eq_bigSepL [0, 1, 2] (by decide) (by decide), bigSepL_cons_cons, bigSepL_cons_cons, bigSepL_singleton,
    payload_bar, payload_bar, payload_bar]
  unfold barPay
  rw [show back c 0 = peer c 2 from back_rev c 2, show back c 1 = peer c 1 from back_rev c 1, show back c 2 = peer c 0 from back_rev c 0]
  rfl
/-- All a device takes from a departure semaphore is what the transfer read. -/
theorem rest_s (k : Fin 9) : bigSep ((Rd (F := F) m ρ).duties (sCell c k) 0 \ ∅) (fun d => (Rd (F := F) m ρ).payload (sCell c k) 0 d)
    = sendPay m ρ c k := by
  rw [Finset.sdiff_empty, duties_s, bigSep_singleton, payload_s]
/-- All a device takes from an arrival semaphore is the filled slot. -/
theorem rest_v (k : Fin 9) : bigSep ((Rd (F := F) m ρ).duties (vCell c k) 0 \ ∅) (fun d => (Rd (F := F) m ρ).payload (vCell c k) 0 d)
    = recvPay m ρ c k := by
  rw [Finset.sdiff_empty, duties_v, bigSep_singleton, payload_v]

end Table

/-! ## What a device owes, in the order in which it pays -/

/-- Payment `i` of a device: the direction it goes, the transfer it is (from the fourth on), the semaphore and the amount. -/
def payDir : Fin 12 → Fin 3 := ![0, 1, 2, 1, 0, 2, 1, 0, 2, 1, 0, 2]
/-- The transfer that payment `i` is, from the fourth payment on. -/
def payXfer : Fin 12 → Fin 9 := ![0, 0, 0, 1, 0, 2, 4, 3, 5, 7, 6, 8]
/-- The kind of semaphore payment `i` goes to. -/
def paySem (i : Fin 12) : SemLoc sig := if i.val < 3 then .reg barS else .dma (vS (payXfer i))
/-- The amount of payment `i`. -/
def payAmt (i : Fin 12) : ℕ := if i.val < 3 then 1 else xamt (payXfer i)
/-- The semaphore payment `i` of device `c` goes to. -/
def payCell (c : Dev nD) (i : Fin 12) : GSem nD τ sig := ((peer c (payDir i) : Thread nD τ), paySem i)

/-- What device `c` still owes after its first `n` payments. -/
def owed (c : Dev nD) (n : ℕ) : CellTallies nD τ sig Unit :=
  ∑ i ∈ Finset.univ.filter (fun i : Fin 12 => n ≤ i.val), tallyAt (payCell c i) () (payAmt i)

/-- What is owed before payment `i` is what is owed after it and payment `i` itself. -/
theorem owed_peel (c : Dev nD) (i : Fin 12) : owed c i.val = owed c (i.val + 1) + tallyAt (payCell c i) () (payAmt i) := by
  unfold owed
  have h : Finset.univ.filter (fun i' : Fin 12 => i.val ≤ i'.val) = insert i (Finset.univ.filter (fun i' : Fin 12 => i.val + 1 ≤ i'.val)) := by
    ext x; simp only [Finset.mem_filter, Finset.mem_univ, true_and, Finset.mem_insert, Fin.ext_iff]; omega
  rw [h, Finset.sum_insert (by simp), add_comm]
/-- After twelve payments nothing is owed. -/
theorem owed_done (c : Dev nD) : owed c 12 = 0 := by
  unfold owed
  refine Finset.sum_eq_zero fun i hi => ?_
  have h1 := (Finset.mem_filter.mp hi).2
  have h2 := i.isLt
  omega
/-- Whatever is still owed is owed to the semaphore of a payment not yet made. -/
theorem owed_pos {c : Dev nD} {n : ℕ} {g : GSem nD τ sig} {u : Unit} (h : 0 < owed c n g u) : ∃ i : Fin 12, n ≤ i.val ∧ g = payCell c i := by
  by_contra hn
  push Not at hn
  have : owed c n g u = 0 := by
    unfold owed
    rw [Finset.sum_apply, Finsupp.finset_sum_apply]
    exact Finset.sum_eq_zero fun i hi => by
      rw [tallyAt_apply]; exact if_neg fun h' => hn i (Finset.mem_filter.mp hi).2 h'.1
  omega

/-! ## Levels -/

/-- Only the semaphores of the device's own core are ranked. -/
def L (g : GSem nD τ sig) : Finset Unit := if g.1.2 = .tc then {()} else ∅
/-- The barrier below the first layer's arrivals, each layer's arrivals below the next one's, all else at the bottom. -/
def lvOf (sm : SemLoc sig) : ℕ := match sm with
  | .reg _ => 1
  | .dma q => if 17 ≤ q.val then 2 + (q.val - 17) / 3 else 0
/-- The rank of a semaphore. -/
def lv (g : GSem nD τ sig) (_ : Unit) : ℕ := lvOf g.2

/-- Semaphores of other cores are not ranked. -/
theorem L_of_ne (g : GSem nD τ sig) (h : g.1.2 ≠ .tc) : L g = ∅ := if_neg h
/-- Semaphores of the device's own core are ranked. -/
theorem L_tc (c : Dev nD) (sm : SemLoc sig) : L ((c : Thread nD τ), sm) = {()} := if_pos rfl

omit [FloatOps F] in
/-- A device may wait on a semaphore that lies below everything it still owes. -/
theorem mayWait (c : Dev nD) (sm : SemLoc sig) (n : ℕ) (h : ∀ i : Fin 12, n ≤ i.val → lvOf sm < lvOf (paySem i)) :
    (levAts L lv : sProp 𝕄) ⊢ MayWait (c : Thread nD τ) sm () (owed c n) :=
  MayOwe.of_cut (L := L) (lev := lv) (lvOf sm) (fun p hp => by rw [Finset.mem_singleton.mp hp, L_tc]; exact Finset.mem_singleton_self _)
    (fun g u hg => by obtain ⟨i, -, rfl⟩ := owed_pos hg; exact Finset.mem_singleton_self _)
    (fun p hp => by rw [Finset.mem_singleton.mp hp]; exact le_refl _)
    (fun g u hg => by obtain ⟨i, hi, rfl⟩ := owed_pos hg; exact h i hi)

end Cert.KernelIdeal.Mlp
-- ==== Proof.KernelIdeal.Steps.lean ====
/-
# The steps of one device

The four things a device does that concern another one — signal it, wait for the barrier, send it a block, wait for a
block to have arrived or to have left — each as one lemma about the schedule's resources.
-/
module

public import proofs.«01_k».proof.Proof.KernelIdeal.Sched

@[expose] public section

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- No loop of the body needs a measure. -/
abbrev 𝒱₀ : Variants := Variants.none

/-! ## The records of a run -/

/-- The nineteen semaphores of a device, in one row: the barrier, the nine of the sources, the nine of the targets. -/
def csem (i : Fin 19) : SemLoc sig :=
  if h : i.val = 0 then .reg barS else .dma ⟨7 + i.val, by have h := i.isLt; show _ < 26; omega⟩
/-- The place of a departure semaphore among the nineteen. -/
abbrev iS (k : Fin 9) : Fin 19 := ⟨1 + k.val, by have h := k.isLt; omega⟩
/-- The place of an arrival semaphore among the nineteen. -/
abbrev iV (k : Fin 9) : Fin 19 := ⟨10 + k.val, by have h := k.isLt; omega⟩
/-- Semaphore `i` of device `c`. -/
abbrev kcell (x : Dev nD × Fin 19) : GSem nD τ sig := ((x.1 : Thread nD τ), csem x.2)

/-- The semaphore at a departure's place is that departure's. -/
theorem csem_S (k : Fin 9) : csem (iS k) = .dma (sS k) := by
  unfold csem
  rw [dif_neg (show ¬ (1 + k.val = 0) by omega)]
  exact congrArg SemLoc.dma (Fin.ext (show 7 + (1 + k.val) = 8 + k.val by omega))
/-- The semaphore at an arrival's place is that arrival's. -/
theorem csem_V (k : Fin 9) : csem (iV k) = .dma (vS k) := by
  unfold csem
  rw [dif_neg (show ¬ (10 + k.val = 0) by omega)]
  exact congrArg SemLoc.dma (Fin.ext (show 7 + (10 + k.val) = 17 + k.val by omega))
/-- The first semaphore of a device is its barrier. -/
theorem kcell_bar (c : Dev nD) : kcell (c, 0) = barCell c := rfl
/-- A departure's semaphore on device `c`. -/
theorem kcell_S (c : Dev nD) (k : Fin 9) : kcell (c, iS k) = sCell c k := by show (_, csem (iS k)) = _; rw [csem_S]
/-- An arrival's semaphore on device `c`. -/
theorem kcell_V (c : Dev nD) (k : Fin 9) : kcell (c, iV k) = vCell c k := by show (_, csem (iV k)) = _; rw [csem_V]

variable (K : Dev nD × Fin 19 → ℕ)

/-- The records every device may read at every moment: the invariants of all cells, that all of them are in their
    first round, and the levels. -/
def env : sProp 𝕄 :=
  iprop(bigSep Finset.univ (fun x : Dev nD × Fin 19 => cellInv ER (Rd m ρ) (K x) (kcell x))
    ∗ bigSep Finset.univ (fun x : Dev nD × Fin 19 => reached ER (kcell x) 0)
    ∗ levAts L lv)

/-- What every step may use can be used any number of times. -/
instance env_persistent : Persistent (env m ρ K) := by unfold env; infer_instance

/-- Every step may use the invariant of any semaphore. -/
theorem env_inv (x : Dev nD × Fin 19) : env m ρ K ⊢ cellInv ER (Rd m ρ) (K x) (kcell x) := by
  have h : (bigSep Finset.univ fun x : Dev nD × Fin 19 => (cellInv ER (Rd m ρ) (K x) (kcell x) : sProp 𝕄)) ⊢ cellInv ER (Rd m ρ) (K x) (kcell x) :=
    bigSep_elim (Finset.mem_univ x)
  unfold env
  iintro ⟨Hi, -, -⟩
  iapply h; iexact Hi
/-- Every step knows that any semaphore has reached its first round. -/
theorem env_reached (x : Dev nD × Fin 19) : env m ρ K ⊢ reached ER (kcell x) 0 := by
  have h : (bigSep Finset.univ fun x : Dev nD × Fin 19 => (reached ER (kcell x) 0 : sProp 𝕄)) ⊢ reached ER (kcell x) 0 :=
    bigSep_elim (Finset.mem_univ x)
  unfold env
  iintro ⟨-, Hr, -⟩
  iapply h; iexact Hr
/-- Every step knows the ranks. -/
theorem env_lev : env m ρ K ⊢ levAts L lv := by
  unfold env
  iintro ⟨-, -, Hl⟩
  iexact Hl

/-- The invariant of a barrier. -/
theorem env_bar (c : Dev nD) : env m ρ K ⊢ cellInv ER (Rd m ρ) (K (c, 0)) (barCell c) := env_inv m ρ K (c, 0)
/-- The invariant of a departure semaphore. -/
theorem env_S (c : Dev nD) (k : Fin 9) : env m ρ K ⊢ cellInv ER (Rd m ρ) (K (c, iS k)) (sCell c k) := by
  have h := env_inv m ρ K (c, iS k); rwa [kcell_S] at h
/-- The invariant of an arrival semaphore. -/
theorem env_V (c : Dev nD) (k : Fin 9) : env m ρ K ⊢ cellInv ER (Rd m ρ) (K (c, iV k)) (vCell c k) := by
  have h := env_inv m ρ K (c, iV k); rwa [kcell_V] at h
/-- A barrier has reached its first round. -/
theorem env_rbar (c : Dev nD) : env m ρ K ⊢ reached ER (barCell c) 0 := env_reached m ρ K (c, 0)
/-- A departure semaphore has reached its first round. -/
theorem env_rS (c : Dev nD) (k : Fin 9) : env m ρ K ⊢ reached ER (sCell c k) 0 := by
  have h := env_reached m ρ K (c, iS k); rwa [kcell_S] at h
/-- An arrival semaphore has reached its first round. -/
theorem env_rV (c : Dev nD) (k : Fin 9) : env m ρ K ⊢ reached ER (vCell c k) 0 := by
  have h := env_reached m ρ K (c, iV k); rwa [kcell_V] at h

/-! ## What a device holds -/

/-- What device `c` owes after `n` payments, whatever it has waited for. -/
def owing (c : Dev nD) (n : ℕ) : sProp 𝕄 := iprop(∃ W, owes (c : Thread nD τ) (owed c n) W)
/-- The barrier before `c` waits on it; -/
def barRes (c : Dev nD) : sProp 𝕄 := iprop(atPos ER (barCell c) 0 ∅ 0 ∗ cred (tallyAt (barCell c) () 3))
/-- an arrival before `c` waits for it; -/
def recvRes (c : Dev nD) (k : Fin 9) : sProp 𝕄 := iprop(atPos ER (vCell c k) 0 ∅ 0 ∗ cred (tallyAt (vCell c k) () (xamt k)))
/-- a transfer of `c` before it is sent: the right to pay at both ends; -/
def sendRes (c p : Dev nD) (k : Fin 9) : sProp 𝕄 := iprop(dutyTok ER (sCell c k) 0 0 ∗ dutyTok ER (vCell p k) 0 0)
/-- and after: the credit for its having left. -/
def sentRes (c : Dev nD) (k : Fin 9) : sProp 𝕄 := cred (tallyAt (sCell c k) () (xamt k))
/-- The place from which `c` waits for its transfer to have left. -/
def leftRes (c : Dev nD) (k : Fin 9) : sProp 𝕄 := atPos ER (sCell c k) 0 ∅ 0

section Steps
variable (c : Dev nD)

/-- `c` signals the device `d + 1` places on, lending it the slots its transfer lands in. -/
theorem step_signal (d : Fin 3) (i : Fin 12) (hi : i.val = d.val) (hdir : payDir i = d) {p : Dev nD} (hp : p = peer c d) {α}
    {s : Sem sig} (hs : s = barS) {n : ℤ} (hn : n = ((1 : ℕ) : ℤ)) {k : PUnit → Prog (TpuEff nD τ sig (Elt F) Λ₀ .tc) α} {Q : α → sProp 𝕄} :
    iprop(env m ρ K ∗ owing c i.val ∗ dutyTok ER (barCell (peer c d)) 0 d ∗ slots c d.rev)
      ⊢ iprop((owing c (i.val + 1) -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (p : Thread nD τ) s n) k) Q) := by
  subst hp; subst hs; subst hn
  have hlt : i.val < 3 := by have h := d.isLt; omega
  have hO : owed c i.val = owed c (i.val + 1) + tallyAt (((peer c d : Dev nD) : Thread nD τ), .reg barS) () 1 := by
    have h := owed_peel c i
    rwa [show payCell c i = (((peer c d : Dev nD) : Thread nD τ), .reg barS) by unfold payCell paySem; rw [if_pos hlt, hdir],
      show payAmt i = 1 from if_pos hlt] at h
  have hpay : (slots c d.rev : sProp 𝕄) ⊢ (Rd m ρ).payload (barCell (peer c d)) 0 d := by
    rw [payload_bar]; unfold barPay; rw [back_peer]
  iintro ⟨#He, HO, Ht, Hs⟩ Hk
  unfold owing
  icases HO with ⟨%W, HO⟩
  iapply (Rounds.wp_signal 𝒱₀ ER (Rd m ρ) (c : Thread nD τ) none (dst := ((peer c d : Dev nD) : Thread nD τ)) (κ := K (peer c d, 0)) (d := d)
    (by rw [duties_bar]; exact Finset.mem_univ d) (amount_bar m ρ (peer c d) d) () (owed c (i.val + 1)) hO) $$ [HO Ht Hs]
  · isplitr; · iapply (env_bar m ρ K (peer c d)); iexact He
    isplitl [HO]; · iexact HO
    isplitl [Ht]; · iexact Ht
    isplitl [Hs]; · iapply hpay; iexact Hs
    iapply (env_rbar m ρ K (peer c d)); iexact He
  iintro HO
  iapply Hk
  iexists W; iexact HO

/-- `c` waits for its barrier: it gets the slots its own transfers land in, and the barrier is closed. -/
theorem step_barrier {α} {s : Sem sig} (hs : s = barS) {n : ℤ} (hn : n = ((3 : ℕ) : ℤ)) {k : PUnit → Prog (TpuEff nD τ sig (Elt F) Λ₀ .tc) α} {Q : α → sProp 𝕄} :
    iprop(env m ρ K ∗ owing c 3 ∗ barRes c)
      ⊢ iprop((owing c 3 ∗ semVal (barCell c) 0 ∗ slots (peer c 0) 0 ∗ slots (peer c 1) 1 ∗ slots (peer c 2) 2
          -∗ wp frame (wpE (defs₀ (F := F)) 𝒱₀ (c : Thread nD τ) none) Set.univ (k ⟨⟩) Q)
        -∗ wp frame (wpE (defs₀ (F := F)) 𝒱₀ (c : Thread nD τ) none) Set.univ (.op (.semWait s n) k) Q) := by
  subst hs; subst hn
  iintro ⟨#He, HO, Hb⟩ Hk
  unfold owing barRes
  icases HO with ⟨%W, HO⟩
  icases Hb with ⟨Hat, Hc⟩
  iapply (Rounds.wp_wait_rest_token 𝒱₀ ER (Rd m ρ) (c : Thread nD τ) none (κ := K (c, 0)) (wpE_semWait_eq 𝒱₀ (c : Thread nD τ) none Set.univ)
    (Set.mem_univ _) () (O := owed c 3) (W := W) (R := 0) (m := 0) (T := ∅) (by rw [expect_bar])) $$ [HO Hat Hc]
  · isplitr; · iapply (env_bar m ρ K c); iexact He
    isplitl [Hc]; · iexact Hc
    isplitl [HO]; · iexact HO
    isplitr
    · iapply (mayWait c (.reg barS) 3 (by decide)); iapply (env_lev m ρ K); iexact He
    iexact Hat
  rw [rest_bar m ρ c]
  iintro ⟨HO, Hat, -, H2, H1, H0⟩
  imod (Rounds.cell_close ER (Rd m ρ) (Set.mem_univ (K (c, 0))) (fun h => h) (R := 0 + 1) (duties_later m ρ _)) $$ [Hat] with Hz
  · isplitr; · iapply (env_bar m ρ K c); iexact He
    iexact Hat
  iapply Hk
  isplitl [HO]; · iexists _; iexact HO
  isplitl [Hz]; · iexact Hz
  isplitl [H0]; · iexact H0
  isplitl [H1]; · iexact H1
  iexact H2

/-- `c` sends layer `r`'s partial product to slot `j` of the device `j + 1` places on. -/
theorem step_sendG (r : Fin 2) (j : Fin 3) (i : Fin 12) (h3 : 3 ≤ i.val) (hdir : payDir i = j) (hx : payXfer i = kG r j)
    {p : Dev nD} (hp : p = peer c j) {α} {src dst : Memref sig .tc .vmem S128x128 .bf16} (hsrc' : src = memP r.castSucc) (hdst' : dst = memG r j)
    {a v : DmaSem sig} (ha : a = sS (kG r j)) (hv : v = vS (kG r j))
    {hsc : (dst : Memref sig (Dev.tc p : Thread nD τ).2.kind .vmem S128x128 .bf16).view.ref.isScScratch = false} {hsrc : src.view.WordExact} {hdst : dst.view.WordExact}
    {hsem : DmaTarget.Typed .vmem (.dma v) (.remote (Dev.tc p : Thread nD τ) dst (.dma a) hsc)}
    {k : PUnit → Prog (TpuEff nD τ sig (Elt F) Λ₀ .tc) α} {Q : α → sProp 𝕄} :
    iprop(env m ρ K ∗ owing c i.val ∗ ptsP m ρ c r.castSucc (shareOf j) ∗ anyG (peer c j) r j ∗ sendRes c (peer c j) (kG r j))
      ⊢ iprop((owing c (i.val + 1) ∗ sentRes c (kG r j) -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma src (.remote (Dev.tc p : Thread nD τ) dst (.dma a) hsc) (.dma v) hsrc hdst hsem) k) Q) := by
  subst hp; subst hsrc'; subst hdst'; subst ha; subst hv
  have hO : owed c i.val = owed c (i.val + 1) + tallyAt (((peer c j : Dev nD) : Thread nD τ), .dma (vS (kG r j))) () NG := by
    have h := owed_peel c i
    rwa [show payCell c i = (((peer c j : Dev nD) : Thread nD τ), .dma (vS (kG r j))) by
        unfold payCell paySem; rw [if_neg (by omega), hdir, hx],
      show payAmt i = NG by unfold payAmt; rw [if_neg (by omega), hx, xamt_kG]] at h
  iintro ⟨#He, HO, Hp, Hd, Ht⟩ Hk
  unfold owing ptsP anyG sendRes sentRes
  rw [xamt_kG]
  icases HO with ⟨%W, HO⟩
  icases Hd with ⟨%f, Hd⟩
  icases Ht with ⟨Hts, Htv⟩
  iapply (Rounds.wp_send_pointsTo 𝒱₀ ER (Rd m ρ) (c : Thread nD τ) none (κ₁ := K (c, iS (kG r j))) (κ₂ := K (peer c j, iV (kG r j))) (r₁ := 0) (r₂ := 0) (d₁ := 0) (d₂ := 0)
    (q := shareOf j) (fs := conP m ρ c) (fd := f)
    (by rw [duties_s]; exact Finset.mem_singleton_self _) (by rw [duties_v]; exact Finset.mem_singleton_self _) () () NG rfl
    ((amount_s m ρ c _ _).trans (xamt_kG r j)) ((amount_v m ρ (peer c j) _ _).trans (xamt_kG r j)) (owed c (i.val + 1)) hO (W := W)
    (by rw [payload_s, sendPay_kG]; exact Laws.entails_refl _)
    (by rw [payload_v, recvPay_kG, pointsTo_congr (land_conG m ρ r j c f)]; exact Laws.entails_refl _)) $$ [HO Hp Hd Hts Htv]
  · isplitr; · iapply (env_S m ρ K c); iexact He
    isplitr; · iapply (env_V m ρ K (peer c j)); iexact He
    isplitl [Hp]; · iexact Hp
    isplitl [Hd]; · iexact Hd
    isplitl [HO]; · iexact HO
    isplitl [Hts]; · iexact Hts
    isplitr; · iapply (env_rS m ρ K c); iexact He
    isplitl [Htv]; · iexact Htv
    iapply (env_rV m ρ K (peer c j)); iexact He
  iintro ⟨Hc, HO⟩
  iapply Hk
  isplitl [HO]; · iexists W; iexact HO
  iexact Hc

/-- `c` sends the rows of the last partial product that belong to the device `j + 1` places on. -/
theorem step_sendR (j : Fin 3) (i : Fin 12) (h3 : 3 ≤ i.val) (hdir : payDir i = j) (hx : payXfer i = kR j)
    {p : Dev nD} (hp : p = peer c j) {α} {src dst : Memref sig .tc .vmem S32x128 .bf16} (hsrc' : src = memQ (peer c j)) (hdst' : dst = memR j)
    {a v : DmaSem sig} (ha : a = sS (kR j)) (hv : v = vS (kR j))
    {hsc : (dst : Memref sig (Dev.tc p : Thread nD τ).2.kind .vmem S32x128 .bf16).view.ref.isScScratch = false} {hsrc : src.view.WordExact} {hdst : dst.view.WordExact}
    {hsem : DmaTarget.Typed .vmem (.dma v) (.remote (Dev.tc p : Thread nD τ) dst (.dma a) hsc)}
    {k : PUnit → Prog (TpuEff nD τ sig (Elt F) Λ₀ .tc) α} {Q : α → sProp 𝕄} :
    iprop(env m ρ K ∗ owing c i.val ∗ ptsQ m ρ c (peer c j) ∗ anyR (peer c j) j ∗ sendRes c (peer c j) (kR j))
      ⊢ iprop((owing c (i.val + 1) ∗ sentRes c (kR j) -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma src (.remote (Dev.tc p : Thread nD τ) dst (.dma a) hsc) (.dma v) hsrc hdst hsem) k) Q) := by
  subst hp; subst hsrc'; subst hdst'; subst ha; subst hv
  have hO : owed c i.val = owed c (i.val + 1) + tallyAt (((peer c j : Dev nD) : Thread nD τ), .dma (vS (kR j))) () NR := by
    have h := owed_peel c i
    rwa [show payCell c i = (((peer c j : Dev nD) : Thread nD τ), .dma (vS (kR j))) by
        unfold payCell paySem; rw [if_neg (by omega), hdir, hx],
      show payAmt i = NR by unfold payAmt; rw [if_neg (by omega), hx, xamt_kR]] at h
  iintro ⟨#He, HO, Hp, Hd, Ht⟩ Hk
  unfold owing ptsQ anyR sendRes sentRes
  rw [xamt_kR]
  icases HO with ⟨%W, HO⟩
  icases Hd with ⟨%f, Hd⟩
  icases Ht with ⟨Hts, Htv⟩
  iapply (Rounds.wp_send_pointsTo 𝒱₀ ER (Rd m ρ) (c : Thread nD τ) none (κ₁ := K (c, iS (kR j))) (κ₂ := K (peer c j, iV (kR j))) (r₁ := 0) (r₂ := 0) (d₁ := 0) (d₂ := 0)
    (q := fullShare) (fs := conP m ρ c) (fd := f)
    (by rw [duties_s]; exact Finset.mem_singleton_self _) (by rw [duties_v]; exact Finset.mem_singleton_self _) () () NR rfl
    ((amount_s m ρ c _ _).trans (xamt_kR j)) ((amount_v m ρ (peer c j) _ _).trans (xamt_kR j)) (owed c (i.val + 1)) hO (W := W)
    (by rw [payload_s, sendPay_kR]; exact Laws.entails_refl _)
    (by rw [payload_v, recvPay_kR, pointsTo_congr (land_conR m ρ j c f)]; exact Laws.entails_refl _)) $$ [HO Hp Hd Hts Htv]
  · isplitr; · iapply (env_S m ρ K c); iexact He
    isplitr; · iapply (env_V m ρ K (peer c j)); iexact He
    isplitl [Hp]; · iexact Hp
    isplitl [Hd]; · iexact Hd
    isplitl [HO]; · iexact HO
    isplitl [Hts]; · iexact Hts
    isplitr; · iapply (env_rS m ρ K c); iexact He
    isplitl [Htv]; · iexact Htv
    iapply (env_rV m ρ K (peer c j)); iexact He
  iintro ⟨Hc, HO⟩
  iapply Hk
  isplitl [HO]; · iexists W; iexact HO
  iexact Hc

/-- `c` waits for arrival `x`, having made `n` payments: it gets what has arrived, and the semaphore is closed. -/
theorem step_recv (x : Fin 9) (n : ℕ) (hn : ∀ i : Fin 12, n ≤ i.val → lvOf (.dma (vS x)) < lvOf (paySem i)) {α} {s : Shape} {e : EltTy}
    {v : DmaSem sig} (hv : v = vS x) {src dst : Memref sig .tc .vmem s e} (hc : dst.view.dmaCredit = xamt x) {hsrc : src.view.WordExact} {hdst : dst.view.WordExact}
    {k : PUnit → Prog (TpuEff nD τ sig (Elt F) Λ₀ .tc) α} {Q : α → sProp 𝕄} :
    iprop(env m ρ K ∗ owing c n ∗ recvRes c x)
      ⊢ iprop((owing c n ∗ semVal (vCell c x) 0 ∗ recvPay m ρ c x -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 v src dst hsrc hdst) k) Q) := by
  subst hv
  iintro ⟨#He, HO, Hb⟩ Hk
  unfold owing recvRes
  icases HO with ⟨%W, HO⟩
  icases Hb with ⟨Hat, Hc⟩
  rw [← hc]
  iapply (Rounds.wp_wait_rest_token 𝒱₀ ER (Rd m ρ) (c : Thread nD τ) none (κ := K (c, iV x)) (wpE_waitDma2_eq 𝒱₀ (c : Thread nD τ) none Set.univ)
    (Set.mem_univ _) () (O := owed c n) (W := W) (R := 0) (m := 0) (T := ∅) (by rw [expect_v, Nat.zero_add, hc])) $$ [HO Hat Hc]
  · isplitr; · iapply (env_V m ρ K c); iexact He
    isplitl [Hc]; · iexact Hc
    isplitl [HO]; · iexact HO
    isplitr
    · iapply (mayWait c (.dma (vS x)) n hn); iapply (env_lev m ρ K); iexact He
    iexact Hat
  rw [rest_v m ρ c]
  iintro ⟨HO, Hat, -, Hp⟩
  imod (Rounds.cell_close ER (Rd m ρ) (Set.mem_univ (K (c, iV x))) (fun h => h) (R := 0 + 1) (duties_later m ρ _)) $$ [Hat] with Hz
  · isplitr; · iapply (env_V m ρ K c); iexact He
    iexact Hat
  iapply Hk
  isplitl [HO]; · iexists _; iexact HO
  isplitl [Hz]; · iexact Hz
  iexact Hp

/-- `c`, all paid, waits for transfer `x` to have left: what it was sent from comes back, and the semaphore is closed. -/
theorem step_left (x : Fin 9) {α} {s : Shape} {e : EltTy}
    {a : DmaSem sig} (ha : a = sS x) {src dst : Memref sig .tc .vmem s e} (hc : dst.view.dmaCredit = xamt x) {hsrc : src.view.WordExact} {hdst : dst.view.WordExact}
    {k : PUnit → Prog (TpuEff nD τ sig (Elt F) Λ₀ .tc) α} {Q : α → sProp 𝕄} :
    iprop(env m ρ K ∗ owing c 12 ∗ sentRes c x ∗ leftRes c x)
      ⊢ iprop((owing c 12 ∗ semVal (sCell c x) 0 ∗ sendPay m ρ c x -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 a src dst hsrc hdst) k) Q) := by
  subst ha
  iintro ⟨#He, HO, Hc, Hat⟩ Hk
  unfold owing sentRes leftRes
  icases HO with ⟨%W, HO⟩
  rw [← hc]
  iapply (Rounds.wp_wait_rest_token 𝒱₀ ER (Rd m ρ) (c : Thread nD τ) none (κ := K (c, iS x)) (wpE_waitDma2_eq 𝒱₀ (c : Thread nD τ) none Set.univ)
    (Set.mem_univ _) () (O := owed c 12) (W := W) (R := 0) (m := 0) (T := ∅) (by rw [expect_s, Nat.zero_add, hc])) $$ [HO Hat Hc]
  · isplitr; · iapply (env_S m ρ K c); iexact He
    isplitl [Hc]; · iexact Hc
    isplitl [HO]; · iexact HO
    isplitr
    · rw [owed_done, MayWait_zero]; iempintro
    iexact Hat
  rw [rest_s m ρ c]
  iintro ⟨HO, Hat, -, Hp⟩
  imod (Rounds.cell_close ER (Rd m ρ) (Set.mem_univ (K (c, iS x))) (fun h => h) (R := 0 + 1) (duties_later m ρ _)) $$ [Hat] with Hz
  · isplitr; · iapply (env_S m ρ K c); iexact He
    iexact Hat
  iapply Hk
  isplitl [HO]; · iexists _; iexact HO
  isplitl [Hz]; · iexact Hz
  iexact Hp

end Steps

end Cert.KernelIdeal.Mlp
-- ==== Proof.KernelIdeal.Access.lean ====
/-
# One device's own reads and writes

Storing a partial product, reading back its own rows of it, and reading what has landed, each as one lemma about the
parts of the scratch buffers; and how these parts make up the whole buffers.
-/
module

public import proofs.«01_k».proof.Proof.KernelIdeal.Steps
public import Idealize.ShloMosaic.Lib.Ring

@[expose] public section

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Layer `r`'s place among the partial products, with anything in it. -/
def anyP (c : Dev nD) (r : Fin 3) : sProp 𝕄 :=
  iprop(∃ f, (memP r).view.loc (c : Thread nD τ) ↦[(memP r).view.set]{fullShare} f)
/-- A staging buffer, whole. -/
abbrev stg (c : Dev nD) (b : Ref sig .tc) (X : b.ty.Contents (Elt F)) : sProp 𝕄 :=
  iprop(((c : Thread nD τ).loc b) ↦{fullShare} X)

/-! ## Rectangles and memrefs by their closed offsets -/

/-- The rows at the offset computed for transfer `j` are the rows of its target. -/
theorem off1_rect (c : Dev nD) (j : Fin 3) (h) : Rect.unit (s := S3x128x128) (k0_off1 c (BitVec.ofNat 32 (1 + j.val))) S1x32x128.size h = rectQ (peer c j) :=
  Rect.unit_congr (k0_off1_eq c j) _ _
/-- The rows that go to another device, as the body names them. -/
theorem srcQ0 (c : Dev nD) (h hs) : (pM.slice (Rect.unit (s := S3x128x128) (k0_off1 c 1#32) S1x32x128.size h) hs).squeeze S32x128 squeezes_S1x32x128_S32x128 = memQ (peer c 0) := by
  congr 2; exact off1_rect c 0 h
/-- The source of the last layer's second transfer is the rows of its target. -/
theorem srcQ1 (c : Dev nD) (h hs) : (pM.slice (Rect.unit (s := S3x128x128) (k0_off1 c 2#32) S1x32x128.size h) hs).squeeze S32x128 squeezes_S1x32x128_S32x128 = memQ (peer c 1) := by
  congr 2; exact off1_rect c 1 h
/-- The source of the last layer's third transfer is the rows of its target. -/
theorem srcQ2 (c : Dev nD) (h hs) : (pM.slice (Rect.unit (s := S3x128x128) (k0_off1 c 3#32) S1x32x128.size h) hs).squeeze S32x128 squeezes_S1x32x128_S32x128 = memQ (peer c 2) := by
  congr 2; exact off1_rect c 2 h
/-- The rows at the device's own offset are its own. -/
theorem off2_rect (c : Dev nD) (h) : Rect.unit (s := S3x128x128) (k0_off2 c) S1x32x128.size h = rectQ c :=
  Rect.unit_congr (k0_off2_eq c) _ _
/-- A reference to a whole buffer reaches no more than is asked of it. -/
theorem setOn_whole (b : Ref sig .tc) (M) : (View.whole b : View sig .tc _ _ _).setOn M ⊆ M := by
  intro i hi
  obtain ⟨x, hx, rfl⟩ := Finset.mem_map.mp hi
  exact hx

/-- A transfer's credit depends on its shape alone. -/
theorem credit128 (d : Memref sig .tc .vmem S128x128 .bf16) : d.view.dmaCredit = NG := rfl
/-- Any transfer of 32 rows raises its semaphores alike. -/
theorem credit32 (d : Memref sig .tc .vmem S32x128 .bf16) : d.view.dmaCredit = NR := rfl

/-! ## Parts of a partial product -/

/-- Three shares of a partial product are the whole of it. -/
theorem ptsP_shares (c : Dev nD) (r : Fin 3) :
    ptsP m ρ c r fullShare ⊣⊢ iprop(ptsP m ρ c r (shareOf 0) ∗ ptsP m ρ c r (shareOf 1) ∗ ptsP m ρ c r (shareOf 2)) := by
  have h1 : ptsP m ρ c r fullShare ⊣⊢ iprop(ptsP m ρ c r fullShare.left ∗ ptsP m ρ c r fullShare.right) :=
    pointsTo_share (PosShare.mem_left_op_right fullShare)
  have h2 : ptsP m ρ c r fullShare.right ⊣⊢ iprop(ptsP m ρ c r fullShare.right.left ∗ ptsP m ρ c r fullShare.right.right) :=
    pointsTo_share (PosShare.mem_left_op_right fullShare.right)
  rw [BI.Entails.antisymm h1.1 h1.2, BI.Entails.antisymm h2.1 h2.2]
  exact ⟨Laws.entails_refl _, Laws.entails_refl _⟩

/-- A device and its three peers are different. -/
theorem devs_nodup (c : Dev nD) : [c, peer c 0, peer c 1, peer c 2].Nodup := by revert c; decide
/-- A device and its three peers are all there are. -/
theorem devs_all (c : Dev nD) : (Finset.univ : Finset (Dev nD)) = [c, peer c 0, peer c 1, peer c 2].toFinset := by revert c; decide

/-- The last partial product is the rows of the four devices. -/
theorem ptsP_rows (c : Dev nD) :
    ptsP m ρ c 2 fullShare = iprop(ptsQ m ρ c c ∗ ptsQ m ρ c (peer c 0) ∗ ptsQ m ρ c (peer c 1) ∗ ptsQ m ρ c (peer c 2)) := by
  have h : ptsP m ρ c 2 fullShare = bigSep Finset.univ fun p : Dev nD => ptsQ m ρ c p := by
    have e : ∀ p : Dev nD, ptsQ m ρ c p = ((c : Thread nD τ).loc cc0_scratch0 ↦[(rectQ p).set]{fullShare} (conP m ρ c)) := fun p => by
      unfold ptsQ; rw [memQ_set]
    rw [funext e]
    unfold ptsP
    rw [memP_set]
    exact Ring.pointsTo_sub_blocks (ℓ := (c : Thread nD τ).loc cc0_scratch0) (fun p : Dev nD => (rectQ p).set) rectQ_disjoint (rectP 2).set rectQ_cover (conP m ρ c)
  rw [h, bigSep_univ_eq_bigSepL [c, peer c 0, peer c 1, peer c 2] (devs_all c) (devs_nodup c), bigSepL_cons_cons, bigSepL_cons_cons, bigSepL_cons_cons, bigSepL_singleton]
  rfl

/-! ## The whole scratch buffers -/

omit [FloatOps F] in
/-- The buffer of products, whatever it holds, is its three products. -/
theorem P_split (c : Dev nD) : (iprop(∃ f : Buf (Elt F) ((c : Thread nD τ).loc cc0_scratch0), ((c : Thread nD τ).loc cc0_scratch0) ↦{fullShare} f) : sProp 𝕄)
    ⊢ iprop(anyP c 0 ∗ anyP c 1 ∗ anyP c 2) := by
  iintro ⟨%f, H⟩
  have e : ∀ r : Fin 3, ((c : Thread nD τ).loc cc0_scratch0 ↦[(rectP r).set]{fullShare} f : sProp 𝕄) ⊢ anyP c r := fun r => by
    unfold anyP; rw [memP_set]; iintro H; iexists f; iexact H
  have h : (((c : Thread nD τ).loc cc0_scratch0) ↦{fullShare} f : sProp 𝕄) ⊢ iprop(anyP c 0 ∗ anyP c 1 ∗ anyP c 2) := by
    rw [Ring.pointsTo_blocks (fun r : Fin 3 => (rectP r).set) rectP_disjoint rectP_cover f, bigSep_univ_eq_bigSepL [0, 1, 2] (by decide) (by decide),
      bigSepL_cons_cons, bigSepL_cons_cons, bigSepL_singleton]
    exact BIClass.sep_mono (e 0) (BIClass.sep_mono (e 1) (e 2))
  iapply h; iexact H
omit [FloatOps F] in
/-- The buffer of the first two layers' slots, whatever it holds, is its six slots. -/
theorem G_split (c : Dev nD) : (iprop(∃ f : Buf (Elt F) ((c : Thread nD τ).loc cc0_scratch1), ((c : Thread nD τ).loc cc0_scratch1) ↦{fullShare} f) : sProp 𝕄)
    ⊢ iprop(anyG c 0 0 ∗ anyG c 0 1 ∗ anyG c 0 2 ∗ anyG c 1 0 ∗ anyG c 1 1 ∗ anyG c 1 2) := by
  iintro ⟨%f, H⟩
  have e : ∀ (r : Fin 2) (j : Fin 3), ((c : Thread nD τ).loc cc0_scratch1 ↦[(rectG r j).set]{fullShare} f : sProp 𝕄) ⊢ anyG c r j := fun r j => by
    unfold anyG; rw [memG_set]; iintro H; iexists f; iexact H
  have h : (((c : Thread nD τ).loc cc0_scratch1) ↦{fullShare} f : sProp 𝕄) ⊢ iprop(anyG c 0 0 ∗ anyG c 0 1 ∗ anyG c 0 2 ∗ anyG c 1 0 ∗ anyG c 1 1 ∗ anyG c 1 2) := by
    rw [Ring.pointsTo_blocks (fun b : Fin 2 × Fin 3 => (rectG b.1 b.2).set) rectG_disjoint rectG_cover f,
      bigSep_univ_eq_bigSepL [(0, 0), (0, 1), (0, 2), (1, 0), (1, 1), (1, 2)] (by decide) (by decide),
      bigSepL_cons_cons, bigSepL_cons_cons, bigSepL_cons_cons, bigSepL_cons_cons, bigSepL_cons_cons, bigSepL_singleton]
    exact BIClass.sep_mono (e 0 0) (BIClass.sep_mono (e 0 1) (BIClass.sep_mono (e 0 2) (BIClass.sep_mono (e 1 0) (BIClass.sep_mono (e 1 1) (e 1 2)))))
  iapply h; iexact H
omit [FloatOps F] in
/-- The buffer of the last layer's slots, whatever it holds, is its three slots. -/
theorem R_split (c : Dev nD) : (iprop(∃ f : Buf (Elt F) ((c : Thread nD τ).loc cc0_scratch2), ((c : Thread nD τ).loc cc0_scratch2) ↦{fullShare} f) : sProp 𝕄)
    ⊢ iprop(anyR c 0 ∗ anyR c 1 ∗ anyR c 2) := by
  iintro ⟨%f, H⟩
  have e : ∀ j : Fin 3, ((c : Thread nD τ).loc cc0_scratch2 ↦[(rectR j).set]{fullShare} f : sProp 𝕄) ⊢ anyR c j := fun j => by
    unfold anyR; rw [memR_set]; iintro H; iexists f; iexact H
  have h : (((c : Thread nD τ).loc cc0_scratch2) ↦{fullShare} f : sProp 𝕄) ⊢ iprop(anyR c 0 ∗ anyR c 1 ∗ anyR c 2) := by
    rw [Ring.pointsTo_blocks (fun r : Fin 3 => (rectR r).set) rectR_disjoint rectR_cover f, bigSep_univ_eq_bigSepL [0, 1, 2] (by decide) (by decide),
      bigSepL_cons_cons, bigSepL_cons_cons, bigSepL_singleton]
    exact BIClass.sep_mono (e 0) (BIClass.sep_mono (e 1) (e 2))
  iapply h; iexact H

/-- The three partial products are the whole buffer at its last contents; -/
theorem P_join (c : Dev nD) : iprop(ptsP m ρ c 0 fullShare ∗ ptsP m ρ c 1 fullShare ∗ ptsP m ρ c 2 fullShare)
    = (((c : Thread nD τ).loc cc0_scratch0) ↦{fullShare} (conP m ρ c) : sProp 𝕄) := by
  have e : ∀ r : Fin 3, ptsP m ρ c r fullShare = ((c : Thread nD τ).loc cc0_scratch0 ↦[(rectP r).set]{fullShare} (conP m ρ c)) := fun r => by
    unfold ptsP; rw [memP_set]
  rw [Ring.pointsTo_blocks (ℓ := (c : Thread nD τ).loc cc0_scratch0) (fun r : Fin 3 => (rectP r).set) rectP_disjoint rectP_cover (conP m ρ c), bigSep_univ_eq_bigSepL [0, 1, 2] (by decide) (by decide),
    bigSepL_cons_cons, bigSepL_cons_cons, bigSepL_singleton, e, e, e]
  rfl
/-- so are the six slots of the first two layers, -/
theorem G_join (c : Dev nD) : iprop(ptsG m ρ c 0 0 ∗ ptsG m ρ c 0 1 ∗ ptsG m ρ c 0 2 ∗ ptsG m ρ c 1 0 ∗ ptsG m ρ c 1 1 ∗ ptsG m ρ c 1 2)
    = (((c : Thread nD τ).loc cc0_scratch1) ↦{fullShare} (conG m ρ c) : sProp 𝕄) := by
  have e : ∀ (r : Fin 2) (j : Fin 3), ptsG m ρ c r j = ((c : Thread nD τ).loc cc0_scratch1 ↦[(rectG r j).set]{fullShare} (conG m ρ c)) := fun r j => by
    unfold ptsG; rw [memG_set]
  rw [Ring.pointsTo_blocks (ℓ := (c : Thread nD τ).loc cc0_scratch1) (fun b : Fin 2 × Fin 3 => (rectG b.1 b.2).set) rectG_disjoint rectG_cover (conG m ρ c),
    bigSep_univ_eq_bigSepL [(0, 0), (0, 1), (0, 2), (1, 0), (1, 1), (1, 2)] (by decide) (by decide),
    bigSepL_cons_cons, bigSepL_cons_cons, bigSepL_cons_cons, bigSepL_cons_cons, bigSepL_cons_cons, bigSepL_singleton, e, e, e, e, e, e]
  rfl
/-- and the three of the last. -/
theorem R_join (c : Dev nD) : iprop(ptsR m ρ c 0 ∗ ptsR m ρ c 1 ∗ ptsR m ρ c 2)
    = (((c : Thread nD τ).loc cc0_scratch2) ↦{fullShare} (conR m ρ c) : sProp 𝕄) := by
  have e : ∀ j : Fin 3, ptsR m ρ c j = ((c : Thread nD τ).loc cc0_scratch2 ↦[(rectR j).set]{fullShare} (conR m ρ c)) := fun j => by
    unfold ptsR; rw [memR_set]
  rw [Ring.pointsTo_blocks (ℓ := (c : Thread nD τ).loc cc0_scratch2) (fun r : Fin 3 => (rectR r).set) rectR_disjoint rectR_cover (conR m ρ c), bigSep_univ_eq_bigSepL [0, 1, 2] (by decide) (by decide),
    bigSepL_cons_cons, bigSepL_cons_cons, bigSepL_singleton, e, e, e]
  rfl

section Access
variable (c : Dev nD)

/-- A read of layer `r`'s place before it is written: whatever it gives, the place is untouched. -/
theorem step_peekP (r : Fin 3) {α} {hl : pM.view.LoadsAt (rectP r).toLoadRect}
    {k : ((rectP r).toLoadRect.shape.Idx → Elt F .bf16) → Prog (TpuEff nD τ sig (Elt F) Λ₀ .tc) α} {Q : α → sProp 𝕄} :
    anyP c r ⊢ iprop((∀ v, anyP c r -∗ wp frame (wpE (defs₀ (F := F)) 𝒱₀ (c : Thread nD τ) none) Set.univ (k v) Q)
        -∗ wp frame (wpE (defs₀ (F := F)) 𝒱₀ (c : Thread nD τ) none) Set.univ (.op (.load pM (rectP r).toLoadRect hl) k) Q) := by
  unfold anyP
  iintro ⟨%f, H⟩ Hk
  iapply (wp_load 𝒱₀ (c : Thread nD τ) none Set.univ (m := pM) (r := (rectP r).toLoadRect) (S := (memP r).view.set)
    (by rw [memP_set]; exact setOn_whole _ _)) $$ H
  iintro H
  iapply Hk
  iexists f; iexact H

/-- Storing layer `r`'s partial product. -/
theorem step_storeP (r : Fin 3) {α} {w : (rectP r).shape.Idx → Elt F .bf16} (hw : w = qq m ρ r c)
    {hx : (pM.access (rectP r)).Stores Finset.univ} {hm}
    {k : PUnit → Prog (TpuEff nD τ sig (Elt F) Λ₀ .tc) α} {Q : α → sProp 𝕄} :
    anyP c r ⊢ iprop((ptsP m ρ c r fullShare -∗ wp frame (wpE (defs₀ (F := F)) 𝒱₀ (c : Thread nD τ) none) Set.univ (k ⟨⟩) Q)
        -∗ wp frame (wpE (defs₀ (F := F)) 𝒱₀ (c : Thread nD τ) none) Set.univ (.op (.store pM (rectP r) w Finset.univ hx hm) k) Q) := by
  subst hw
  have e : ∀ f : (cc0_scratch0 : Ref sig .tc).ty.Contents (Elt F), ∀ i ∈ (memP r).view.set, (pM.access (rectP r)).write (Elt F) f (qq m ρ r c) Finset.univ i = conP m ρ c i := by
    intro f; rw [memP_set]; exact store_conP m ρ r c f
  unfold anyP
  iintro ⟨%f, H⟩ Hk
  iapply (wp_store 𝒱₀ (c : Thread nD τ) none Set.univ (m := pM) (r := rectP r) (Mk := Finset.univ) (S := (memP r).view.set)
    (by rw [memP_set]; exact (View.set_slice_whole _ _).subset)) $$ H
  iintro H
  iapply Hk
  unfold ptsP
  iapply (Entails.of_eq (pointsTo_congr (e f))); iexact H

/-- Reading a slot of the first two layers after its transfer has landed, -/
theorem step_loadG (r : Fin 2) (j : Fin 3) {α} {hl : gM.view.LoadsAt (rectG r j).toLoadRect}
    {k : ((rectG r j).toLoadRect.shape.Idx → Elt F .bf16) → Prog (TpuEff nD τ sig (Elt F) Λ₀ .tc) α} {Q : α → sProp 𝕄} :
    ptsG m ρ c r j ⊢ iprop((ptsG m ρ c r j -∗ wp frame (wpE (defs₀ (F := F)) 𝒱₀ (c : Thread nD τ) none) Set.univ (k (slotG (qq m ρ r.castSucc (back c j)))) Q)
        -∗ wp frame (wpE (defs₀ (F := F)) 𝒱₀ (c : Thread nD τ) none) Set.univ (.op (.load gM (rectG r j).toLoadRect hl) k) Q) := by
  have h := wp_load (Γ := .empty) (defs := defs₀ (F := F)) 𝒱₀ (c : Thread nD τ) none Set.univ (m := gM) (r := (rectG r j).toLoadRect) (hl := hl) (k := k) (Q := Q) (S := (memG r j).view.set) (q := fullShare) (f := conG m ρ c)
    (by rw [memG_set]; exact setOn_whole _ _)
  rw [load_conG m ρ r j c] at h
  exact h
/-- a slot of the last, -/
theorem step_loadR (j : Fin 3) {α} {hl : rM.view.LoadsAt (rectR j).toLoadRect}
    {k : ((rectR j).toLoadRect.shape.Idx → Elt F .bf16) → Prog (TpuEff nD τ sig (Elt F) Λ₀ .tc) α} {Q : α → sProp 𝕄} :
    ptsR m ρ c j ⊢ iprop((ptsR m ρ c j -∗ wp frame (wpE (defs₀ (F := F)) 𝒱₀ (c : Thread nD τ) none) Set.univ (k (slotR c (q2 m ρ (back c j)))) Q)
        -∗ wp frame (wpE (defs₀ (F := F)) 𝒱₀ (c : Thread nD τ) none) Set.univ (.op (.load rM (rectR j).toLoadRect hl) k) Q) := by
  have h := wp_load (Γ := .empty) (defs := defs₀ (F := F)) 𝒱₀ (c : Thread nD τ) none Set.univ (m := rM) (r := (rectR j).toLoadRect) (hl := hl) (k := k) (Q := Q) (S := (memR j).view.set) (q := fullShare) (f := conR m ρ c)
    (by rw [memR_set]; exact setOn_whole _ _)
  rw [load_conR m ρ j c] at h
  exact h
/-- and the device's own rows of its last partial product. -/
theorem step_loadQ {α} {hl : pM.view.LoadsAt (rectQ c).toLoadRect}
    {k : ((rectQ c).toLoadRect.shape.Idx → Elt F .bf16) → Prog (TpuEff nD τ sig (Elt F) Λ₀ .tc) α} {Q : α → sProp 𝕄} :
    ptsQ m ρ c c ⊢ iprop((ptsQ m ρ c c -∗ wp frame (wpE (defs₀ (F := F)) 𝒱₀ (c : Thread nD τ) none) Set.univ (k (slotR c (q2 m ρ c))) Q)
        -∗ wp frame (wpE (defs₀ (F := F)) 𝒱₀ (c : Thread nD τ) none) Set.univ (.op (.load pM (rectQ c).toLoadRect hl) k) Q) := by
  have h := wp_load (Γ := .empty) (defs := defs₀ (F := F)) 𝒱₀ (c : Thread nD τ) none Set.univ (m := pM) (r := (rectQ c).toLoadRect) (hl := hl) (k := k) (Q := Q) (S := (memQ c).view.set) (q := fullShare) (f := conP m ρ c)
    (by rw [memQ_set]; exact setOn_whole _ _)
  rw [load_conQ m ρ c] at h
  exact h

/-- The own rows again, by any offsets that are theirs. -/
theorem step_loadOwn {off : Fin 3 → Nat} (ho : off = ![2, 32 * c.val, 0]) {hb : ∀ a, off a + S1x32x128.size a ≤ S3x128x128.size a} {α}
    {hl : pM.view.LoadsAt (Rect.unit (s := S3x128x128) off S1x32x128.size hb).toLoadRect}
    {k : (S1x32x128.Idx → Elt F .bf16) → Prog (TpuEff nD τ sig (Elt F) Λ₀ .tc) α} {Q : α → sProp 𝕄} :
    ptsQ m ρ c c ⊢ iprop((ptsQ m ρ c c -∗ wp frame (wpE (defs₀ (F := F)) 𝒱₀ (c : Thread nD τ) none) Set.univ (k (slotR c (q2 m ρ c))) Q)
        -∗ wp frame (wpE (defs₀ (F := F)) 𝒱₀ (c : Thread nD τ) none) Set.univ
          (.op (.load pM (Rect.unit (s := S3x128x128) off S1x32x128.size hb).toLoadRect hl) k) Q) := by
  subst ho
  exact step_loadQ m ρ c

end Access

/-! ## The waits, by the shape of what they wait for -/

section Waits
variable (K : Dev nD × Fin 19 → ℕ) (c : Dev nD)

/-- Waiting for a whole partial product to have arrived, and -/
theorem step_recvG (r : Fin 2) (j : Fin 3) (n : ℕ) (hn : ∀ i : Fin 12, n ≤ i.val → lvOf (.dma (vS (kG r j))) < lvOf (paySem i)) {α}
    {v : DmaSem sig} (hv : v = vS (kG r j)) {src dst : Memref sig .tc .vmem S128x128 .bf16} {hsrc : src.view.WordExact} {hdst : dst.view.WordExact}
    {k : PUnit → Prog (TpuEff nD τ sig (Elt F) Λ₀ .tc) α} {Q : α → sProp 𝕄} :
    iprop(env m ρ K ∗ owing c n ∗ recvRes c (kG r j))
      ⊢ iprop((owing c n ∗ semVal (vCell c (kG r j)) 0 ∗ ptsG m ρ c r j -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 v src dst hsrc hdst) k) Q) := by
  have h := step_recv m ρ K c (kG r j) n hn hv (src := src) (dst := dst) (hsrc := hsrc) (hdst := hdst) (k := k) (Q := Q) ((credit128 dst).trans (xamt_kG r j).symm)
  rwa [recvPay_kG] at h
/-- for rows of the last one. -/
theorem step_recvR (j : Fin 3) (n : ℕ) (hn : ∀ i : Fin 12, n ≤ i.val → lvOf (.dma (vS (kR j))) < lvOf (paySem i)) {α}
    {v : DmaSem sig} (hv : v = vS (kR j)) {src dst : Memref sig .tc .vmem S32x128 .bf16} {hsrc : src.view.WordExact} {hdst : dst.view.WordExact}
    {k : PUnit → Prog (TpuEff nD τ sig (Elt F) Λ₀ .tc) α} {Q : α → sProp 𝕄} :
    iprop(env m ρ K ∗ owing c n ∗ recvRes c (kR j))
      ⊢ iprop((owing c n ∗ semVal (vCell c (kR j)) 0 ∗ ptsR m ρ c j -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 v src dst hsrc hdst) k) Q) := by
  have h := step_recv m ρ K c (kR j) n hn hv (src := src) (dst := dst) (hsrc := hsrc) (hdst := hdst) (k := k) (Q := Q) ((credit32 dst).trans (xamt_kR j).symm)
  rwa [recvPay_kR] at h
/-- Waiting for a whole partial product to have left, and -/
theorem step_leftG (r : Fin 2) (j : Fin 3) {α}
    {a : DmaSem sig} (ha : a = sS (kG r j)) {src dst : Memref sig .tc .vmem S128x128 .bf16} {hsrc : src.view.WordExact} {hdst : dst.view.WordExact}
    {k : PUnit → Prog (TpuEff nD τ sig (Elt F) Λ₀ .tc) α} {Q : α → sProp 𝕄} :
    iprop(env m ρ K ∗ owing c 12 ∗ sentRes c (kG r j) ∗ leftRes c (kG r j))
      ⊢ iprop((owing c 12 ∗ semVal (sCell c (kG r j)) 0 ∗ ptsP m ρ c r.castSucc (shareOf j) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 a src dst hsrc hdst) k) Q) := by
  have h := step_left m ρ K c (kG r j) ha (src := src) (dst := dst) (hsrc := hsrc) (hdst := hdst) (k := k) (Q := Q) ((credit128 dst).trans (xamt_kG r j).symm)
  rwa [sendPay_kG] at h
/-- for rows of the last one. -/
theorem step_leftR (j : Fin 3) {α}
    {a : DmaSem sig} (ha : a = sS (kR j)) {src dst : Memref sig .tc .vmem S32x128 .bf16} {hsrc : src.view.WordExact} {hdst : dst.view.WordExact}
    {k : PUnit → Prog (TpuEff nD τ sig (Elt F) Λ₀ .tc) α} {Q : α → sProp 𝕄} :
    iprop(env m ρ K ∗ owing c 12 ∗ sentRes c (kR j) ∗ leftRes c (kR j))
      ⊢ iprop((owing c 12 ∗ semVal (sCell c (kR j)) 0 ∗ ptsQ m ρ c (peer c j) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 a src dst hsrc hdst) k) Q) := by
  have h := step_left m ρ K c (kR j) ha (src := src) (dst := dst) (hsrc := hsrc) (hdst := hdst) (k := k) (Q := Q) ((credit32 dst).trans (xamt_kR j).symm)
  rwa [sendPay_kR] at h

end Waits

end Cert.KernelIdeal.Mlp
-- ==== Proof.KernelIdeal.Parts.lean ====
/-
# The parts of the body

The body is printed in thirteen parts. For each, what a device has to hold before it and what it holds after it, with
the values the part hands on.
-/
module

public import proofs.«01_k».proof.Proof.KernelIdeal.Access

@[expose] public section

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 19 → ℕ)

/-! ## Whole staging buffers -/

/-- The offset of a whole buffer is zero in each coordinate. -/
theorem zero2 : (![0, 0] : Fin 2 → Nat) = fun _ => 0 := funext fun a => by fin_cases a <;> rfl

/-- Reading the whole of staging buffer 0. -/
theorem step_load0 (c : Dev nD) (X : (cc0_stg0_0 : Ref sig .tc).ty.Contents (Elt F)) {α} {hl : (Memref.whole cc0_stg0_0 : Memref sig .tc .vmem S128x128 .f32).view.LoadsAt (Rect.unit (s := S128x128) ![0, 0] S128x128.size inb_S128x128_S128x128_0_0).toLoadRect}
    {k : (S128x128.Idx → Elt F .f32) → Prog (TpuEff nD τ sig (Elt F) Λ₀ .tc) α} {Q : α → sProp 𝕄} :
    stg c cc0_stg0_0 X ⊢ iprop((stg c cc0_stg0_0 X -∗ wp frame (wpE (defs₀ (F := F)) 𝒱₀ (c : Thread nD τ) none) Set.univ (k X) Q)
        -∗ wp frame (wpE (defs₀ (F := F)) 𝒱₀ (c : Thread nD τ) none) Set.univ
          (.op (.load (Memref.whole cc0_stg0_0 : Memref sig .tc .vmem S128x128 .f32) (Rect.unit (s := S128x128) ![0, 0] S128x128.size inb_S128x128_S128x128_0_0).toLoadRect hl) k) Q) := by
  have h := wp_load (Γ := .empty) (defs := defs₀ (F := F)) 𝒱₀ (c : Thread nD τ) none Set.univ (m := (Memref.whole cc0_stg0_0 : Memref sig .tc .vmem S128x128 .f32))
    (r := (Rect.unit (s := S128x128) ![0, 0] S128x128.size inb_S128x128_S128x128_0_0).toLoadRect) (hl := hl) (k := k) (Q := Q) (S := Finset.univ) (q := fullShare) (f := X) (Finset.subset_univ _)
  have e : (Memref.whole cc0_stg0_0 : Memref sig .tc .vmem S128x128 .f32).view.readAt (Elt F) (Rect.unit (s := S128x128) ![0, 0] S128x128.size inb_S128x128_S128x128_0_0).toLoadRect X = X :=
    Memref.readAt_unit_zero (Elt F) cc0_stg0_0 zero2 _ _
  rw [e] at h
  exact h
/-- Reading the whole of staging buffer 1. -/
theorem step_load1 (c : Dev nD) (X : (cc0_stg1_0 : Ref sig .tc).ty.Contents (Elt F)) {α} {hl : (Memref.whole cc0_stg1_0 : Memref sig .tc .vmem S128x256 .f32).view.LoadsAt (Rect.unit (s := S128x256) ![0, 0] S128x256.size inb_S128x256_S128x256_0_0).toLoadRect}
    {k : (S128x256.Idx → Elt F .f32) → Prog (TpuEff nD τ sig (Elt F) Λ₀ .tc) α} {Q : α → sProp 𝕄} :
    stg c cc0_stg1_0 X ⊢ iprop((stg c cc0_stg1_0 X -∗ wp frame (wpE (defs₀ (F := F)) 𝒱₀ (c : Thread nD τ) none) Set.univ (k X) Q)
        -∗ wp frame (wpE (defs₀ (F := F)) 𝒱₀ (c : Thread nD τ) none) Set.univ
          (.op (.load (Memref.whole cc0_stg1_0 : Memref sig .tc .vmem S128x256 .f32) (Rect.unit (s := S128x256) ![0, 0] S128x256.size inb_S128x256_S128x256_0_0).toLoadRect hl) k) Q) := by
  have h := wp_load (Γ := .empty) (defs := defs₀ (F := F)) 𝒱₀ (c : Thread nD τ) none Set.univ (m := (Memref.whole cc0_stg1_0 : Memref sig .tc .vmem S128x256 .f32))
    (r := (Rect.unit (s := S128x256) ![0, 0] S128x256.size inb_S128x256_S128x256_0_0).toLoadRect) (hl := hl) (k := k) (Q := Q) (S := Finset.univ) (q := fullShare) (f := X) (Finset.subset_univ _)
  have e : (Memref.whole cc0_stg1_0 : Memref sig .tc .vmem S128x256 .f32).view.readAt (Elt F) (Rect.unit (s := S128x256) ![0, 0] S128x256.size inb_S128x256_S128x256_0_0).toLoadRect X = X :=
    Memref.readAt_unit_zero (Elt F) cc0_stg1_0 zero2 _ _
  rw [e] at h
  exact h
/-- Reading the whole of staging buffer 2. -/
theorem step_load2 (c : Dev nD) (X : (cc0_stg2_0 : Ref sig .tc).ty.Contents (Elt F)) {α} {hl : (Memref.whole cc0_stg2_0 : Memref sig .tc .vmem S256x128 .f32).view.LoadsAt (Rect.unit (s := S256x128) ![0, 0] S256x128.size inb_S256x128_S256x128_0_0).toLoadRect}
    {k : (S256x128.Idx → Elt F .f32) → Prog (TpuEff nD τ sig (Elt F) Λ₀ .tc) α} {Q : α → sProp 𝕄} :
    stg c cc0_stg2_0 X ⊢ iprop((stg c cc0_stg2_0 X -∗ wp frame (wpE (defs₀ (F := F)) 𝒱₀ (c : Thread nD τ) none) Set.univ (k X) Q)
        -∗ wp frame (wpE (defs₀ (F := F)) 𝒱₀ (c : Thread nD τ) none) Set.univ
          (.op (.load (Memref.whole cc0_stg2_0 : Memref sig .tc .vmem S256x128 .f32) (Rect.unit (s := S256x128) ![0, 0] S256x128.size inb_S256x128_S256x128_0_0).toLoadRect hl) k) Q) := by
  have h := wp_load (Γ := .empty) (defs := defs₀ (F := F)) 𝒱₀ (c : Thread nD τ) none Set.univ (m := (Memref.whole cc0_stg2_0 : Memref sig .tc .vmem S256x128 .f32))
    (r := (Rect.unit (s := S256x128) ![0, 0] S256x128.size inb_S256x128_S256x128_0_0).toLoadRect) (hl := hl) (k := k) (Q := Q) (S := Finset.univ) (q := fullShare) (f := X) (Finset.subset_univ _)
  have e : (Memref.whole cc0_stg2_0 : Memref sig .tc .vmem S256x128 .f32).view.readAt (Elt F) (Rect.unit (s := S256x128) ![0, 0] S256x128.size inb_S256x128_S256x128_0_0).toLoadRect X = X :=
    Memref.readAt_unit_zero (Elt F) cc0_stg2_0 zero2 _ _
  rw [e] at h
  exact h
/-- Reading the whole of staging buffer 3. -/
theorem step_load3 (c : Dev nD) (X : (cc0_stg3_0 : Ref sig .tc).ty.Contents (Elt F)) {α} {hl : (Memref.whole cc0_stg3_0 : Memref sig .tc .vmem S128x256 .f32).view.LoadsAt (Rect.unit (s := S128x256) ![0, 0] S128x256.size inb_S128x256_S128x256_0_0).toLoadRect}
    {k : (S128x256.Idx → Elt F .f32) → Prog (TpuEff nD τ sig (Elt F) Λ₀ .tc) α} {Q : α → sProp 𝕄} :
    stg c cc0_stg3_0 X ⊢ iprop((stg c cc0_stg3_0 X -∗ wp frame (wpE (defs₀ (F := F)) 𝒱₀ (c : Thread nD τ) none) Set.univ (k X) Q)
        -∗ wp frame (wpE (defs₀ (F := F)) 𝒱₀ (c : Thread nD τ) none) Set.univ
          (.op (.load (Memref.whole cc0_stg3_0 : Memref sig .tc .vmem S128x256 .f32) (Rect.unit (s := S128x256) ![0, 0] S128x256.size inb_S128x256_S128x256_0_0).toLoadRect hl) k) Q) := by
  have h := wp_load (Γ := .empty) (defs := defs₀ (F := F)) 𝒱₀ (c : Thread nD τ) none Set.univ (m := (Memref.whole cc0_stg3_0 : Memref sig .tc .vmem S128x256 .f32))
    (r := (Rect.unit (s := S128x256) ![0, 0] S128x256.size inb_S128x256_S128x256_0_0).toLoadRect) (hl := hl) (k := k) (Q := Q) (S := Finset.univ) (q := fullShare) (f := X) (Finset.subset_univ _)
  have e : (Memref.whole cc0_stg3_0 : Memref sig .tc .vmem S128x256 .f32).view.readAt (Elt F) (Rect.unit (s := S128x256) ![0, 0] S128x256.size inb_S128x256_S128x256_0_0).toLoadRect X = X :=
    Memref.readAt_unit_zero (Elt F) cc0_stg3_0 zero2 _ _
  rw [e] at h
  exact h
/-- Reading the whole of staging buffer 4. -/
theorem step_load4 (c : Dev nD) (X : (cc0_stg4_0 : Ref sig .tc).ty.Contents (Elt F)) {α} {hl : (Memref.whole cc0_stg4_0 : Memref sig .tc .vmem S256x128 .f32).view.LoadsAt (Rect.unit (s := S256x128) ![0, 0] S256x128.size inb_S256x128_S256x128_0_0).toLoadRect}
    {k : (S256x128.Idx → Elt F .f32) → Prog (TpuEff nD τ sig (Elt F) Λ₀ .tc) α} {Q : α → sProp 𝕄} :
    stg c cc0_stg4_0 X ⊢ iprop((stg c cc0_stg4_0 X -∗ wp frame (wpE (defs₀ (F := F)) 𝒱₀ (c : Thread nD τ) none) Set.univ (k X) Q)
        -∗ wp frame (wpE (defs₀ (F := F)) 𝒱₀ (c : Thread nD τ) none) Set.univ
          (.op (.load (Memref.whole cc0_stg4_0 : Memref sig .tc .vmem S256x128 .f32) (Rect.unit (s := S256x128) ![0, 0] S256x128.size inb_S256x128_S256x128_0_0).toLoadRect hl) k) Q) := by
  have h := wp_load (Γ := .empty) (defs := defs₀ (F := F)) 𝒱₀ (c : Thread nD τ) none Set.univ (m := (Memref.whole cc0_stg4_0 : Memref sig .tc .vmem S256x128 .f32))
    (r := (Rect.unit (s := S256x128) ![0, 0] S256x128.size inb_S256x128_S256x128_0_0).toLoadRect) (hl := hl) (k := k) (Q := Q) (S := Finset.univ) (q := fullShare) (f := X) (Finset.subset_univ _)
  have e : (Memref.whole cc0_stg4_0 : Memref sig .tc .vmem S256x128 .f32).view.readAt (Elt F) (Rect.unit (s := S256x128) ![0, 0] S256x128.size inb_S256x128_S256x128_0_0).toLoadRect X = X :=
    Memref.readAt_unit_zero (Elt F) cc0_stg4_0 zero2 _ _
  rw [e] at h
  exact h
/-- Reading the whole of staging buffer 5. -/
theorem step_load5 (c : Dev nD) (X : (cc0_stg5_0 : Ref sig .tc).ty.Contents (Elt F)) {α} {hl : (Memref.whole cc0_stg5_0 : Memref sig .tc .vmem S128x256 .f32).view.LoadsAt (Rect.unit (s := S128x256) ![0, 0] S128x256.size inb_S128x256_S128x256_0_0).toLoadRect}
    {k : (S128x256.Idx → Elt F .f32) → Prog (TpuEff nD τ sig (Elt F) Λ₀ .tc) α} {Q : α → sProp 𝕄} :
    stg c cc0_stg5_0 X ⊢ iprop((stg c cc0_stg5_0 X -∗ wp frame (wpE (defs₀ (F := F)) 𝒱₀ (c : Thread nD τ) none) Set.univ (k X) Q)
        -∗ wp frame (wpE (defs₀ (F := F)) 𝒱₀ (c : Thread nD τ) none) Set.univ
          (.op (.load (Memref.whole cc0_stg5_0 : Memref sig .tc .vmem S128x256 .f32) (Rect.unit (s := S128x256) ![0, 0] S128x256.size inb_S128x256_S128x256_0_0).toLoadRect hl) k) Q) := by
  have h := wp_load (Γ := .empty) (defs := defs₀ (F := F)) 𝒱₀ (c : Thread nD τ) none Set.univ (m := (Memref.whole cc0_stg5_0 : Memref sig .tc .vmem S128x256 .f32))
    (r := (Rect.unit (s := S128x256) ![0, 0] S128x256.size inb_S128x256_S128x256_0_0).toLoadRect) (hl := hl) (k := k) (Q := Q) (S := Finset.univ) (q := fullShare) (f := X) (Finset.subset_univ _)
  have e : (Memref.whole cc0_stg5_0 : Memref sig .tc .vmem S128x256 .f32).view.readAt (Elt F) (Rect.unit (s := S128x256) ![0, 0] S128x256.size inb_S128x256_S128x256_0_0).toLoadRect X = X :=
    Memref.readAt_unit_zero (Elt F) cc0_stg5_0 zero2 _ _
  rw [e] at h
  exact h
/-- Reading the whole of staging buffer 6. -/
theorem step_load6 (c : Dev nD) (X : (cc0_stg6_0 : Ref sig .tc).ty.Contents (Elt F)) {α} {hl : (Memref.whole cc0_stg6_0 : Memref sig .tc .vmem S256x128 .f32).view.LoadsAt (Rect.unit (s := S256x128) ![0, 0] S256x128.size inb_S256x128_S256x128_0_0).toLoadRect}
    {k : (S256x128.Idx → Elt F .f32) → Prog (TpuEff nD τ sig (Elt F) Λ₀ .tc) α} {Q : α → sProp 𝕄} :
    stg c cc0_stg6_0 X ⊢ iprop((stg c cc0_stg6_0 X -∗ wp frame (wpE (defs₀ (F := F)) 𝒱₀ (c : Thread nD τ) none) Set.univ (k X) Q)
        -∗ wp frame (wpE (defs₀ (F := F)) 𝒱₀ (c : Thread nD τ) none) Set.univ
          (.op (.load (Memref.whole cc0_stg6_0 : Memref sig .tc .vmem S256x128 .f32) (Rect.unit (s := S256x128) ![0, 0] S256x128.size inb_S256x128_S256x128_0_0).toLoadRect hl) k) Q) := by
  have h := wp_load (Γ := .empty) (defs := defs₀ (F := F)) 𝒱₀ (c : Thread nD τ) none Set.univ (m := (Memref.whole cc0_stg6_0 : Memref sig .tc .vmem S256x128 .f32))
    (r := (Rect.unit (s := S256x128) ![0, 0] S256x128.size inb_S256x128_S256x128_0_0).toLoadRect) (hl := hl) (k := k) (Q := Q) (S := Finset.univ) (q := fullShare) (f := X) (Finset.subset_univ _)
  have e : (Memref.whole cc0_stg6_0 : Memref sig .tc .vmem S256x128 .f32).view.readAt (Elt F) (Rect.unit (s := S256x128) ![0, 0] S256x128.size inb_S256x128_S256x128_0_0).toLoadRect X = X :=
    Memref.readAt_unit_zero (Elt F) cc0_stg6_0 zero2 _ _
  rw [e] at h
  exact h
/-- Reading the whole of staging buffer 7. -/
theorem step_load7 (c : Dev nD) (X : (cc0_stg7_0 : Ref sig .tc).ty.Contents (Elt F)) {α} {hl : (Memref.whole cc0_stg7_0 : Memref sig .tc .vmem S32x128 .f32).view.LoadsAt (Rect.unit (s := S32x128) ![0, 0] S32x128.size inb_S32x128_S32x128_0_0).toLoadRect}
    {k : (S32x128.Idx → Elt F .f32) → Prog (TpuEff nD τ sig (Elt F) Λ₀ .tc) α} {Q : α → sProp 𝕄} :
    stg c cc0_stg7_0 X ⊢ iprop((stg c cc0_stg7_0 X -∗ wp frame (wpE (defs₀ (F := F)) 𝒱₀ (c : Thread nD τ) none) Set.univ (k X) Q)
        -∗ wp frame (wpE (defs₀ (F := F)) 𝒱₀ (c : Thread nD τ) none) Set.univ
          (.op (.load (Memref.whole cc0_stg7_0 : Memref sig .tc .vmem S32x128 .f32) (Rect.unit (s := S32x128) ![0, 0] S32x128.size inb_S32x128_S32x128_0_0).toLoadRect hl) k) Q) := by
  have h := wp_load (Γ := .empty) (defs := defs₀ (F := F)) 𝒱₀ (c : Thread nD τ) none Set.univ (m := (Memref.whole cc0_stg7_0 : Memref sig .tc .vmem S32x128 .f32))
    (r := (Rect.unit (s := S32x128) ![0, 0] S32x128.size inb_S32x128_S32x128_0_0).toLoadRect) (hl := hl) (k := k) (Q := Q) (S := Finset.univ) (q := fullShare) (f := X) (Finset.subset_univ _)
  have e : (Memref.whole cc0_stg7_0 : Memref sig .tc .vmem S32x128 .f32).view.readAt (Elt F) (Rect.unit (s := S32x128) ![0, 0] S32x128.size inb_S32x128_S32x128_0_0).toLoadRect X = X :=
    Memref.readAt_unit_zero (Elt F) cc0_stg7_0 zero2 _ _
  rw [e] at h
  exact h
/-- Storing the result. -/
theorem step_storeOut (c : Dev nD) (X : (cc0_stg7_0 : Ref sig .tc).ty.Contents (Elt F)) {α} {w : S32x128.Idx → Elt F .f32} (hw : w = out m ρ c)
    {hx : ((Memref.whole cc0_stg7_0 : Memref sig .tc .vmem S32x128 .f32).access (Rect.unit (s := S32x128) ![0, 0] S32x128.size inb_S32x128_S32x128_0_0)).Stores Finset.univ} {hm}
    {k : PUnit → Prog (TpuEff nD τ sig (Elt F) Λ₀ .tc) α} {Q : α → sProp 𝕄} :
    stg c cc0_stg7_0 X ⊢ iprop((stg c cc0_stg7_0 (out m ρ c) -∗ wp frame (wpE (defs₀ (F := F)) 𝒱₀ (c : Thread nD τ) none) Set.univ (k ⟨⟩) Q)
        -∗ wp frame (wpE (defs₀ (F := F)) 𝒱₀ (c : Thread nD τ) none) Set.univ
          (.op (.store (Memref.whole cc0_stg7_0 : Memref sig .tc .vmem S32x128 .f32) (Rect.unit (s := S32x128) ![0, 0] S32x128.size inb_S32x128_S32x128_0_0) w Finset.univ hx hm) k) Q) := by
  subst hw
  have e : ((Memref.whole cc0_stg7_0 : Memref sig .tc .vmem S32x128 .f32).access (Rect.unit (s := S32x128) ![0, 0] S32x128.size inb_S32x128_S32x128_0_0)).write (Elt F) X (out m ρ c) Finset.univ = out m ρ c :=
    Memref.write_access_unit_zero_univ (Elt F) cc0_stg7_0 zero2 _ X (out m ρ c)
  iintro H Hk
  iapply (wp_store 𝒱₀ (c : Thread nD τ) none Set.univ (m := (Memref.whole cc0_stg7_0 : Memref sig .tc .vmem S32x128 .f32))
    (r := Rect.unit (s := S32x128) ![0, 0] S32x128.size inb_S32x128_S32x128_0_0) (Mk := Finset.univ) (Finset.subset_univ _)) $$ H
  iintro H
  iapply Hk
  iapply (Entails.of_eq (congrArg (fun f : (cc0_stg7_0 : Ref sig .tc).ty.Contents (Elt F) => (((c : Thread nD τ).loc cc0_stg7_0) ↦{fullShare} f : sProp 𝕄)) e)); iexact H

/-! ## The slices of the semaphore arrays -/

/-- Entry (0, 0) of the departure semaphores is that of the first layer's transfer 0. -/
theorem send_00 : ((cc0_scratch3.slice (Rect.unit (s := S3x3) ![0, 0] S1x1.size inb_S3x3_S1x1_0_0)).squeeze S_ squeezes_S1x1_S_).sem = sS (kG 0 0) := rfl
/-- Entry (0, 1) of the departure semaphores is that of the first layer's transfer 1. -/
theorem send_01 : ((cc0_scratch3.slice (Rect.unit (s := S3x3) ![0, 1] S1x1.size inb_S3x3_S1x1_0_1)).squeeze S_ squeezes_S1x1_S_).sem = sS (kG 0 1) := rfl
/-- Entry (0, 2) of the departure semaphores is that of the first layer's transfer 2. -/
theorem send_02 : ((cc0_scratch3.slice (Rect.unit (s := S3x3) ![0, 2] S1x1.size inb_S3x3_S1x1_0_2)).squeeze S_ squeezes_S1x1_S_).sem = sS (kG 0 2) := rfl
/-- Entry (1, 0) of the departure semaphores is that of the second layer's transfer 0. -/
theorem send_10 : ((cc0_scratch3.slice (Rect.unit (s := S3x3) ![1, 0] S1x1.size inb_S3x3_S1x1_1_0)).squeeze S_ squeezes_S1x1_S_).sem = sS (kG 1 0) := rfl
/-- Entry (1, 1) of the departure semaphores is that of the second layer's transfer 1. -/
theorem send_11 : ((cc0_scratch3.slice (Rect.unit (s := S3x3) ![1, 1] S1x1.size inb_S3x3_S1x1_1_1)).squeeze S_ squeezes_S1x1_S_).sem = sS (kG 1 1) := rfl
/-- Entry (1, 2) of the departure semaphores is that of the second layer's transfer 2. -/
theorem send_12 : ((cc0_scratch3.slice (Rect.unit (s := S3x3) ![1, 2] S1x1.size inb_S3x3_S1x1_1_2)).squeeze S_ squeezes_S1x1_S_).sem = sS (kG 1 2) := rfl
/-- Entry (2, 0) of the departure semaphores is that of the last layer's transfer 0. -/
theorem send_20 : ((cc0_scratch3.slice (Rect.unit (s := S3x3) ![2, 0] S1x1.size inb_S3x3_S1x1_2_0)).squeeze S_ squeezes_S1x1_S_).sem = sS (kR 0) := rfl
/-- Entry (2, 1) of the departure semaphores is that of the last layer's transfer 1. -/
theorem send_21 : ((cc0_scratch3.slice (Rect.unit (s := S3x3) ![2, 1] S1x1.size inb_S3x3_S1x1_2_1)).squeeze S_ squeezes_S1x1_S_).sem = sS (kR 1) := rfl
/-- Entry (2, 2) of the departure semaphores is that of the last layer's transfer 2. -/
theorem send_22 : ((cc0_scratch3.slice (Rect.unit (s := S3x3) ![2, 2] S1x1.size inb_S3x3_S1x1_2_2)).squeeze S_ squeezes_S1x1_S_).sem = sS (kR 2) := rfl
/-- Entry (0, 0) of the arrival semaphores is that of the first layer's transfer 0. -/
theorem recv_00 : ((cc0_scratch4.slice (Rect.unit (s := S3x3) ![0, 0] S1x1.size inb_S3x3_S1x1_0_0)).squeeze S_ squeezes_S1x1_S_).sem = vS (kG 0 0) := rfl
/-- Entry (0, 1) of the arrival semaphores is that of the first layer's transfer 1. -/
theorem recv_01 : ((cc0_scratch4.slice (Rect.unit (s := S3x3) ![0, 1] S1x1.size inb_S3x3_S1x1_0_1)).squeeze S_ squeezes_S1x1_S_).sem = vS (kG 0 1) := rfl
/-- Entry (0, 2) of the arrival semaphores is that of the first layer's transfer 2. -/
theorem recv_02 : ((cc0_scratch4.slice (Rect.unit (s := S3x3) ![0, 2] S1x1.size inb_S3x3_S1x1_0_2)).squeeze S_ squeezes_S1x1_S_).sem = vS (kG 0 2) := rfl
/-- Entry (1, 0) of the arrival semaphores is that of the second layer's transfer 0. -/
theorem recv_10 : ((cc0_scratch4.slice (Rect.unit (s := S3x3) ![1, 0] S1x1.size inb_S3x3_S1x1_1_0)).squeeze S_ squeezes_S1x1_S_).sem = vS (kG 1 0) := rfl
/-- Entry (1, 1) of the arrival semaphores is that of the second layer's transfer 1. -/
theorem recv_11 : ((cc0_scratch4.slice (Rect.unit (s := S3x3) ![1, 1] S1x1.size inb_S3x3_S1x1_1_1)).squeeze S_ squeezes_S1x1_S_).sem = vS (kG 1 1) := rfl
/-- Entry (1, 2) of the arrival semaphores is that of the second layer's transfer 2. -/
theorem recv_12 : ((cc0_scratch4.slice (Rect.unit (s := S3x3) ![1, 2] S1x1.size inb_S3x3_S1x1_1_2)).squeeze S_ squeezes_S1x1_S_).sem = vS (kG 1 2) := rfl
/-- Entry (2, 0) of the arrival semaphores is that of the last layer's transfer 0. -/
theorem recv_20 : ((cc0_scratch4.slice (Rect.unit (s := S3x3) ![2, 0] S1x1.size inb_S3x3_S1x1_2_0)).squeeze S_ squeezes_S1x1_S_).sem = vS (kR 0) := rfl
/-- Entry (2, 1) of the arrival semaphores is that of the last layer's transfer 1. -/
theorem recv_21 : ((cc0_scratch4.slice (Rect.unit (s := S3x3) ![2, 1] S1x1.size inb_S3x3_S1x1_2_1)).squeeze S_ squeezes_S1x1_S_).sem = vS (kR 1) := rfl
/-- Entry (2, 2) of the arrival semaphores is that of the last layer's transfer 2. -/
theorem recv_22 : ((cc0_scratch4.slice (Rect.unit (s := S3x3) ![2, 2] S1x1.size inb_S3x3_S1x1_2_2)).squeeze S_ squeezes_S1x1_S_).sem = vS (kR 2) := rfl

/-! ## The parts -/

section Parts
variable (c : Dev nD)

/-- The word of a device's place that the body computes first. -/
abbrev place (c : Dev nD) : BitVec 32 := Scalar.remsi (Scalar.divsi (Dev.word c) 1#32) 4#32

/-- The three signals and the first five weights. -/
theorem part1_run {Kt : _ → sProp 𝕄} :
    iprop(env m ρ K ∗ owing c 0 ∗ dutyTok ER (barCell (peer c 0)) 0 0 ∗ dutyTok ER (barCell (peer c 1)) 0 1 ∗ dutyTok ER (barCell (peer c 2)) 0 2 ∗ slots c 2 ∗ slots c 1 ∗ slots c 0 ∗ stg c cc0_stg1_0 (wi0 m ρ c) ∗ stg c cc0_stg3_0 (wi1 m ρ c) ∗ stg c cc0_stg5_0 (wi2 m ρ c) ∗ stg c cc0_stg2_0 (wo0 m ρ c) ∗ stg c cc0_stg4_0 (wo1 m ρ c))
      ⊢ iprop((owing c 3 ∗ stg c cc0_stg1_0 (wi0 m ρ c) ∗ stg c cc0_stg3_0 (wi1 m ρ c) ∗ stg c cc0_stg5_0 (wi2 m ρ c) ∗ stg c cc0_stg2_0 (wo0 m ρ c) ∗ stg c cc0_stg4_0 (wo1 m ρ c) -∗ Kt ⟨c, place c, SemArray.scalar (sig.barrier 0 rfl), k0_pay1 (wi0 m ρ c), k0_pay2 (wi1 m ρ c), k0_pay3 (wi2 m ρ c), k0_pay4 (wo0 m ρ c), wo1 m ρ c⟩)
        -∗ wp frame (wpE (defs₀ (F := F)) 𝒱₀ (c : Thread nD τ) none) Set.univ (k0_part1 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 ) Kt) := by
  simp only [k0_part1_eq_skeleton]; unfold k0_part1_skel
  simp only [semSignalWord, semWaitWord, Prog.lift, Prog.bind_op, Prog.bind_ret, Prog.pure_eq_ret, Prog.bind_assoc, wp_deviceId]
  iintro ⟨#He, HO, Ht0, Ht1, Ht2, Hs2, Hs1, Hs0, H1, H3, H5, H2, H4⟩ Hk
  iapply (step_signal m ρ K c 0 0 rfl rfl (dev1_eq c) rfl rfl) $$ [$He $HO $Ht0 $Hs2]; iintro HO
  iapply (step_signal m ρ K c 1 1 rfl rfl (dev2_eq c) rfl rfl) $$ [$He $HO $Ht1 $Hs1]; iintro HO
  iapply (step_signal m ρ K c 2 2 rfl rfl (dev3_eq c) rfl rfl) $$ [$He $HO $Ht2 $Hs0]; iintro HO
  iapply (step_load1 c _) $$ H1; iintro H1
  iapply (step_load3 c _) $$ H3; iintro H3
  iapply (step_load5 c _) $$ H5; iintro H5
  iapply (step_load2 c _) $$ H2; iintro H2
  iapply (step_load4 c _) $$ H4; iintro H4
  rw [wp_ret]; imodintro
  iapply Hk
  iframe HO H1 H3 H5 H2 H4

/-- The last weights, the first partial product, the barrier and the first transfer. -/
theorem part2_run (v2 : BitVec 32) {Kt : _ → sProp 𝕄} :
    iprop(env m ρ K ∗ owing c 3 ∗ barRes c ∗ stg c cc0_stg6_0 (wo2 m ρ c) ∗ stg c cc0_stg0_0 (xs m ρ c) ∗ anyP c 0 ∗ sendRes c (peer c 1) (kG 0 1))
      ⊢ iprop((owing c 4 ∗ semVal (barCell c) 0 ∗ stg c cc0_stg6_0 (wo2 m ρ c) ∗ stg c cc0_stg0_0 (xs m ρ c) ∗ ptsP m ρ c 0 (shareOf 0) ∗ ptsP m ρ c 0 (shareOf 2) ∗ sentRes c (kG 0 1) ∗ slots (peer c 0) 0 ∗ anyG (peer c 1) 1 1 ∗ anyR (peer c 1) 1 ∗ slots (peer c 2) 2 -∗ Kt ⟨k0_pay5 (wo1 m ρ c), k0_pay6 (wo2 m ρ c), h0 m ρ c, Scalar.remsi (Scalar.addi v2 2#32) 4#32, 1#32⟩)
        -∗ wp frame (wpE (defs₀ (F := F)) 𝒱₀ (c : Thread nD τ) none) Set.univ (k0_part2 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 c v2 (SemArray.scalar (sig.barrier 0 rfl)) (k0_pay1 (wi0 m ρ c)) (k0_pay4 (wo0 m ρ c)) (wo1 m ρ c)) Kt) := by
  simp only [k0_part2_eq_skeleton]; unfold k0_part2_skel
  simp only [semSignalWord, semWaitWord, Prog.lift, Prog.bind_op, Prog.bind_ret, Prog.pure_eq_ret, Prog.bind_assoc, wp_deviceId]
  rw [show h0 m ρ c = k0_pay7 (k0_pay1 (wi0 m ρ c)) (k0_pay4 (wo0 m ρ c)) (xs m ρ c) from rfl]
  iintro ⟨#He, HO, Hb, H6, H0, HP, Ht⟩ Hk
  iapply (step_load6 c _) $$ H6; iintro H6
  iapply (step_load0 c _) $$ H0; iintro H0
  iapply (step_peekP c 0) $$ HP; iintro %v HP
  iapply (step_storeP m ρ c 0 rfl) $$ HP; iintro HP
  ihave HP := (ptsP_shares m ρ c 0).1 $$ HP
  icases HP with ⟨HP0, HP1, HP2⟩
  iapply (step_barrier m ρ K c rfl rfl) $$ [$He $HO $Hb]; iintro ⟨HO, Hz, Hs0, Hs1, Hs2⟩
  unfold slots
  icases Hs1 with ⟨HD, HD1, HDR⟩
  iapply (step_sendG m ρ K c 0 1 3 (by decide) rfl rfl (dev4_eq c) rfl rfl rfl rfl) $$ [$He $HO $HP1 $HD $Ht]; iintro ⟨HO, HC⟩
  rw [wp_ret]; imodintro
  iapply Hk
  iframe HO Hz H6 H0 HP0 HP2 HC Hs0 HD1 HDR Hs2

/-- The other two transfers of the first layer. -/
theorem part3_run (v2 c1 : BitVec 32) {Kt : _ → sProp 𝕄} :
    iprop(env m ρ K ∗ owing c 4 ∗ ptsP m ρ c 0 (shareOf 0) ∗ ptsP m ρ c 0 (shareOf 2) ∗ anyG (peer c 0) 0 0 ∗ anyG (peer c 2) 0 2 ∗ sendRes c (peer c 0) (kG 0 0) ∗ sendRes c (peer c 2) (kG 0 2))
      ⊢ iprop((owing c 6 ∗ sentRes c (kG 0 0) ∗ sentRes c (kG 0 2) -∗ Kt ⟨Scalar.remsi (Scalar.addi v2 c1) 4#32, Scalar.remsi (Scalar.addi v2 3#32) 4#32⟩)
        -∗ wp frame (wpE (defs₀ (F := F)) 𝒱₀ (c : Thread nD τ) none) Set.univ (k0_part3 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 c v2 c1) Kt) := by
  simp only [k0_part3_eq_skeleton]; unfold k0_part3_skel
  simp only [semSignalWord, semWaitWord, Prog.lift, Prog.bind_op, Prog.bind_ret, Prog.pure_eq_ret, Prog.bind_assoc, wp_deviceId]
  iintro ⟨#He, HO, HP0, HP2, HD0, HD2, Ht0, Ht2⟩ Hk
  iapply (step_sendG m ρ K c 0 0 4 (by decide) rfl rfl (dev5_eq c) rfl rfl rfl rfl) $$ [$He $HO $HP0 $HD0 $Ht0]; iintro ⟨HO, HC0⟩
  iapply (step_sendG m ρ K c 0 2 5 (by decide) rfl rfl (dev6_eq c) rfl rfl rfl rfl) $$ [$He $HO $HP2 $HD2 $Ht2]; iintro ⟨HO, HC2⟩
  rw [wp_ret]; imodintro
  iapply Hk
  iframe HO HC0 HC2

/-- The first two arrivals of the first layer. -/
theorem part4_run (w1 w2 : BitVec 32) {Kt : _ → sProp 𝕄} :
    iprop(env m ρ K ∗ owing c 6 ∗ recvRes c (kG 0 0) ∗ recvRes c (kG 0 2))
      ⊢ iprop((owing c 6 ∗ semVal (vCell c (kG 0 0)) 0 ∗ semVal (vCell c (kG 0 2)) 0 ∗ ptsG m ρ c 0 0 ∗ ptsG m ρ c 0 2 -∗ Kt (a0 m ρ c))
        -∗ wp frame (wpE (defs₀ (F := F)) 𝒱₀ (c : Thread nD τ) none) Set.univ (k0_part4 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 (h0 m ρ c) w1 w2) Kt) := by
  simp only [k0_part4_eq_skeleton]; unfold k0_part4_skel
  simp only [semSignalWord, semWaitWord, Prog.lift, Prog.bind_op, Prog.bind_ret, Prog.pure_eq_ret, Prog.bind_assoc, wp_deviceId]
  rw [show a0 m ρ c = k0_pay9 (h0 m ρ c) (slotG (qq m ρ (Fin.castSucc (0 : Fin 2)) (back c 0))) (slotG (qq m ρ (Fin.castSucc (0 : Fin 2)) (back c 2))) from rfl]
  iintro ⟨#He, HO, HR0, HR2⟩ Hk
  iapply (step_recvG m ρ K c 0 0 6 (by decide) rfl) $$ [$He $HO $HR0]; iintro ⟨HO, HZ0, HG0⟩
  iapply (step_loadG m ρ c 0 0) $$ HG0; iintro HG0
  iapply (step_recvG m ρ K c 0 2 6 (by decide) rfl) $$ [$He $HO $HR2]; iintro ⟨HO, HZ2, HG2⟩
  iapply (step_loadG m ρ c 0 2) $$ HG2; iintro HG2
  rw [wp_ret]; imodintro
  iapply Hk
  iframe HO HZ0 HZ2 HG0 HG2

/-- The last arrival of the first layer, and the second partial product. -/
theorem part5_run (v2 w : BitVec 32) {Kt : _ → sProp 𝕄} :
    iprop(env m ρ K ∗ owing c 6 ∗ recvRes c (kG 0 1) ∗ anyP c 1)
      ⊢ iprop((owing c 6 ∗ semVal (vCell c (kG 0 1)) 0 ∗ ptsG m ρ c 0 1 ∗ ptsP m ρ c 1 (shareOf 0) ∗ ptsP m ρ c 1 (shareOf 1) ∗ ptsP m ρ c 1 (shareOf 2) -∗ Kt ⟨h1 m ρ c, Scalar.remsi (Scalar.addi v2 2#32) 4#32⟩)
        -∗ wp frame (wpE (defs₀ (F := F)) 𝒱₀ (c : Thread nD τ) none) Set.univ (k0_part5 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 v2 (k0_pay2 (wi1 m ρ c)) (k0_pay5 (wo1 m ρ c)) w (a0 m ρ c)) Kt) := by
  simp only [k0_part5_eq_skeleton]; unfold k0_part5_skel
  simp only [semSignalWord, semWaitWord, Prog.lift, Prog.bind_op, Prog.bind_ret, Prog.pure_eq_ret, Prog.bind_assoc, wp_deviceId]
  rw [show h1 m ρ c = k0_pay10 (k0_pay2 (wi1 m ρ c)) (k0_pay5 (wo1 m ρ c)) (a0 m ρ c) (slotG (qq m ρ (Fin.castSucc (0 : Fin 2)) (back c 1))) from rfl]
  iintro ⟨#He, HO, HR, HP⟩ Hk
  iapply (step_recvG m ρ K c 0 1 6 (by decide) rfl) $$ [$He $HO $HR]; iintro ⟨HO, HZ, HG⟩
  iapply (step_loadG m ρ c 0 1) $$ HG; iintro HG
  iapply (step_peekP c 1) $$ HP; iintro %v HP
  iapply (step_storeP m ρ c 1 rfl) $$ HP; iintro HP
  ihave HP := (ptsP_shares m ρ c 1).1 $$ HP
  icases HP with ⟨HP0, HP1, HP2⟩
  rw [wp_ret]; imodintro
  iapply Hk
  iframe HO HZ HG HP0 HP1 HP2

/-- The first two transfers of the second layer. -/
theorem part6_run (v2 : BitVec 32) {Kt : _ → sProp 𝕄} :
    iprop(env m ρ K ∗ owing c 6 ∗ ptsP m ρ c 1 (shareOf 1) ∗ ptsP m ρ c 1 (shareOf 0) ∗ anyG (peer c 1) 1 1 ∗ anyG (peer c 0) 1 0 ∗ sendRes c (peer c 1) (kG 1 1) ∗ sendRes c (peer c 0) (kG 1 0))
      ⊢ iprop((owing c 8 ∗ sentRes c (kG 1 1) ∗ sentRes c (kG 1 0) -∗ Kt ⟨Scalar.remsi (Scalar.addi v2 1#32) 4#32, Scalar.remsi (Scalar.addi v2 3#32) 4#32⟩)
        -∗ wp frame (wpE (defs₀ (F := F)) 𝒱₀ (c : Thread nD τ) none) Set.univ (k0_part6 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 c v2) Kt) := by
  simp only [k0_part6_eq_skeleton]; unfold k0_part6_skel
  simp only [semSignalWord, semWaitWord, Prog.lift, Prog.bind_op, Prog.bind_ret, Prog.pure_eq_ret, Prog.bind_assoc, wp_deviceId]
  iintro ⟨#He, HO, HP1, HP0, HD1, HD0, Ht1, Ht0⟩ Hk
  iapply (step_sendG m ρ K c 1 1 6 (by decide) rfl rfl (dev7_eq c) rfl rfl rfl rfl) $$ [$He $HO $HP1 $HD1 $Ht1]; iintro ⟨HO, HC1⟩
  iapply (step_sendG m ρ K c 1 0 7 (by decide) rfl rfl (dev8_eq c) rfl rfl rfl rfl) $$ [$He $HO $HP0 $HD0 $Ht0]; iintro ⟨HO, HC0⟩
  rw [wp_ret]; imodintro
  iapply Hk
  iframe HO HC1 HC0

/-- The last transfer of the second layer and its first two arrivals. -/
theorem part7_run (w1 w2 : BitVec 32) {Kt : _ → sProp 𝕄} :
    iprop(env m ρ K ∗ owing c 8 ∗ ptsP m ρ c 1 (shareOf 2) ∗ anyG (peer c 2) 1 2 ∗ sendRes c (peer c 2) (kG 1 2) ∗ recvRes c (kG 1 0) ∗ recvRes c (kG 1 2))
      ⊢ iprop((owing c 9 ∗ sentRes c (kG 1 2) ∗ semVal (vCell c (kG 1 0)) 0 ∗ semVal (vCell c (kG 1 2)) 0 ∗ ptsG m ρ c 1 0 ∗ ptsG m ρ c 1 2 -∗ Kt (a1 m ρ c))
        -∗ wp frame (wpE (defs₀ (F := F)) 𝒱₀ (c : Thread nD τ) none) Set.univ (k0_part7 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 c (h1 m ρ c) w1 w2) Kt) := by
  simp only [k0_part7_eq_skeleton]; unfold k0_part7_skel
  simp only [semSignalWord, semWaitWord, Prog.lift, Prog.bind_op, Prog.bind_ret, Prog.pure_eq_ret, Prog.bind_assoc, wp_deviceId]
  rw [show a1 m ρ c = k0_pay12 (h1 m ρ c) (slotG (qq m ρ (Fin.castSucc (1 : Fin 2)) (back c 0))) (slotG (qq m ρ (Fin.castSucc (1 : Fin 2)) (back c 2))) from rfl]
  iintro ⟨#He, HO, HP, HD, Ht, HR0, HR2⟩ Hk
  iapply (step_sendG m ρ K c 1 2 8 (by decide) rfl rfl (dev9_eq c) rfl rfl rfl rfl) $$ [$He $HO $HP $HD $Ht]; iintro ⟨HO, HC⟩
  iapply (step_recvG m ρ K c 1 0 9 (by decide) rfl) $$ [$He $HO $HR0]; iintro ⟨HO, HZ0, HG0⟩
  iapply (step_loadG m ρ c 1 0) $$ HG0; iintro HG0
  iapply (step_recvG m ρ K c 1 2 9 (by decide) rfl) $$ [$He $HO $HR2]; iintro ⟨HO, HZ2, HG2⟩
  iapply (step_loadG m ρ c 1 2) $$ HG2; iintro HG2
  rw [wp_ret]; imodintro
  iapply Hk
  iframe HO HC HZ0 HZ2 HG0 HG2

/-- The last arrival of the second layer, and the last partial product. -/
theorem part8_run (v2 w : BitVec 32) {Kt : _ → sProp 𝕄} :
    iprop(env m ρ K ∗ owing c 9 ∗ recvRes c (kG 1 1) ∗ anyP c 2)
      ⊢ iprop((owing c 9 ∗ semVal (vCell c (kG 1 1)) 0 ∗ ptsG m ρ c 1 1 ∗ ptsQ m ρ c c ∗ ptsQ m ρ c (peer c 0) ∗ ptsQ m ρ c (peer c 1) ∗ ptsQ m ρ c (peer c 2) -∗ Kt ⟨Scalar.remsi (Scalar.addi v2 2#32) 4#32, Scalar.muli (Scalar.remsi (Scalar.addi v2 2#32) 4#32) 1#32, 0#32⟩)
        -∗ wp frame (wpE (defs₀ (F := F)) 𝒱₀ (c : Thread nD τ) none) Set.univ (k0_part8 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 v2 (k0_pay3 (wi2 m ρ c)) (k0_pay6 (wo2 m ρ c)) w (a1 m ρ c)) Kt) := by
  simp only [k0_part8_eq_skeleton]; unfold k0_part8_skel
  simp only [semSignalWord, semWaitWord, Prog.lift, Prog.bind_op, Prog.bind_ret, Prog.pure_eq_ret, Prog.bind_assoc, wp_deviceId]
  iintro ⟨#He, HO, HR, HP⟩ Hk
  iapply (step_recvG m ρ K c 1 1 9 (by decide) rfl) $$ [$He $HO $HR]; iintro ⟨HO, HZ, HG⟩
  iapply (step_loadG m ρ c 1 1) $$ HG; iintro HG
  iapply (step_peekP c 2) $$ HP; iintro %v HP
  iapply (step_storeP m ρ c 2 rfl) $$ HP; iintro HP
  ihave HP := (Entails.of_eq (ptsP_rows m ρ c)) $$ HP
  icases HP with ⟨HQ, HQ0, HQ1, HQ2⟩
  rw [wp_ret]; imodintro
  iapply Hk
  iframe HO HZ HG HQ HQ0 HQ1 HQ2

/-- The first two transfers of the last layer. -/
theorem part9_run (v2 w1 w2 : BitVec 32) {Kt : _ → sProp 𝕄} :
    iprop(env m ρ K ∗ owing c 9 ∗ ptsQ m ρ c (peer c 1) ∗ ptsQ m ρ c (peer c 0) ∗ anyR (peer c 1) 1 ∗ anyR (peer c 0) 0 ∗ sendRes c (peer c 1) (kR 1) ∗ sendRes c (peer c 0) (kR 0))
      ⊢ iprop((owing c 11 ∗ sentRes c (kR 1) ∗ sentRes c (kR 0) -∗ Kt ⟨Scalar.remsi (Scalar.addi v2 1#32) 4#32, Scalar.remsi (Scalar.addi v2 3#32) 4#32⟩)
        -∗ wp frame (wpE (defs₀ (F := F)) 𝒱₀ (c : Thread nD τ) none) Set.univ (k0_part9 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 c v2 w1 w2) Kt) := by
  simp only [k0_part9_eq_skeleton]; unfold k0_part9_skel
  simp only [semSignalWord, semWaitWord, Prog.lift, Prog.bind_op, Prog.bind_ret, Prog.pure_eq_ret, Prog.bind_assoc, wp_deviceId]
  iintro ⟨#He, HO, HP1, HP0, HD1, HD0, Ht1, Ht0⟩ Hk
  iapply (step_sendR m ρ K c 1 9 (by decide) rfl rfl (dev10_eq c) (srcQ1 c _ _) rfl rfl rfl) $$ [$He $HO $HP1 $HD1 $Ht1]; iintro ⟨HO, HC1⟩
  iapply (step_sendR m ρ K c 0 10 (by decide) rfl rfl (dev11_eq c) (srcQ0 c _ _) rfl rfl rfl) $$ [$He $HO $HP0 $HD0 $Ht0]; iintro ⟨HO, HC0⟩
  rw [wp_ret]; imodintro
  iapply Hk
  iframe HO HC1 HC0

/-- The last transfer of all, the own rows and the first arrival of the last layer. -/
theorem part10_run (v2 w1 w2 : BitVec 32) {Kt : _ → sProp 𝕄} :
    iprop(env m ρ K ∗ owing c 11 ∗ ptsQ m ρ c (peer c 2) ∗ anyR (peer c 2) 2 ∗ sendRes c (peer c 2) (kR 2) ∗ ptsQ m ρ c c ∗ recvRes c (kR 0))
      ⊢ iprop((owing c 12 ∗ sentRes c (kR 2) ∗ ptsQ m ρ c c ∗ semVal (vCell c (kR 0)) 0 ∗ ptsR m ρ c 0 -∗ Kt (b2 m ρ c))
        -∗ wp frame (wpE (defs₀ (F := F)) 𝒱₀ (c : Thread nD τ) none) Set.univ (k0_part10 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 c v2 w1 w2) Kt) := by
  simp only [k0_part10_eq_skeleton]; unfold k0_part10_skel
  simp only [semSignalWord, semWaitWord, Prog.lift, Prog.bind_op, Prog.bind_ret, Prog.pure_eq_ret, Prog.bind_assoc, wp_deviceId]
  rw [show b2 m ρ c = k0_pay14 (slotR c (q2 m ρ c)) (slotR c (q2 m ρ (back c 0))) from rfl]
  iintro ⟨#He, HO, HP, HD, Ht, HQ, HR⟩ Hk
  iapply (step_sendR m ρ K c 2 11 (by decide) rfl rfl (dev12_eq c) (srcQ2 c _ _) rfl rfl rfl) $$ [$He $HO $HP $HD $Ht]; iintro ⟨HO, HC⟩
  iapply (step_loadOwn m ρ c (k0_off2_eq c)) $$ HQ; iintro HQ
  iapply (step_recvR m ρ K c 0 12 (by decide) rfl) $$ [$He $HO $HR]; iintro ⟨HO, HZ, HG⟩
  iapply (step_loadR m ρ c 0) $$ HG; iintro HG
  rw [wp_ret]; imodintro
  iapply Hk
  iframe HO HC HQ HZ HG

/-- The last two arrivals, and the result. -/
theorem part11_run (X : (cc0_stg7_0 : Ref sig .tc).ty.Contents (Elt F)) (w : BitVec 32) {Kt : _ → sProp 𝕄} :
    iprop(env m ρ K ∗ owing c 12 ∗ recvRes c (kR 2) ∗ recvRes c (kR 1) ∗ stg c cc0_stg7_0 X)
      ⊢ iprop((owing c 12 ∗ semVal (vCell c (kR 2)) 0 ∗ semVal (vCell c (kR 1)) 0 ∗ ptsR m ρ c 2 ∗ ptsR m ρ c 1 ∗ stg c cc0_stg7_0 (out m ρ c) -∗ Kt ⟨⟩)
        -∗ wp frame (wpE (defs₀ (F := F)) 𝒱₀ (c : Thread nD τ) none) Set.univ (k0_part11 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 c w (b2 m ρ c)) Kt) := by
  simp only [k0_part11_eq_skeleton]; unfold k0_part11_skel
  simp only [semSignalWord, semWaitWord, Prog.lift, Prog.bind_op, Prog.bind_ret, Prog.pure_eq_ret, Prog.bind_assoc, wp_deviceId]
  iintro ⟨#He, HO, HR2, HR1, HX⟩ Hk
  iapply (step_recvR m ρ K c 2 12 (by decide) rfl) $$ [$He $HO $HR2]; iintro ⟨HO, HZ2, HG2⟩
  iapply (step_loadR m ρ c 2) $$ HG2; iintro HG2
  iapply (step_recvR m ρ K c 1 12 (by decide) rfl) $$ [$He $HO $HR1]; iintro ⟨HO, HZ1, HG1⟩
  iapply (step_loadR m ρ c 1) $$ HG1; iintro HG1
  iapply (step_load7 c _) $$ HX; iintro HX
  iapply (step_storeOut m ρ c X rfl) $$ HX; iintro HX
  rw [wp_ret]; imodintro
  iapply Hk
  iframe HO HZ2 HZ1 HG2 HG1 HX

/-- The first four transfers have left. -/
theorem part12_run {Kt : _ → sProp 𝕄} :
    iprop(env m ρ K ∗ owing c 12 ∗ sentRes c (kG 0 1) ∗ leftRes c (kG 0 1) ∗ sentRes c (kG 0 0) ∗ leftRes c (kG 0 0) ∗ sentRes c (kG 0 2) ∗ leftRes c (kG 0 2) ∗ sentRes c (kG 1 1) ∗ leftRes c (kG 1 1))
      ⊢ iprop((owing c 12 ∗ semVal (sCell c (kG 0 1)) 0 ∗ ptsP m ρ c 0 (shareOf 1) ∗ semVal (sCell c (kG 0 0)) 0 ∗ ptsP m ρ c 0 (shareOf 0) ∗ semVal (sCell c (kG 0 2)) 0 ∗ ptsP m ρ c 0 (shareOf 2) ∗ semVal (sCell c (kG 1 1)) 0 ∗ ptsP m ρ c 1 (shareOf 1) -∗ Kt ⟨⟩)
        -∗ wp frame (wpE (defs₀ (F := F)) 𝒱₀ (c : Thread nD τ) none) Set.univ (k0_part12 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 ) Kt) := by
  simp only [k0_part12_eq_skeleton]; unfold k0_part12_skel
  simp only [semSignalWord, semWaitWord, Prog.lift, Prog.bind_op, Prog.bind_ret, Prog.pure_eq_ret, Prog.bind_assoc, wp_deviceId]
  iintro ⟨#He, HO, HC0, HL0, HC1, HL1, HC2, HL2, HC3, HL3⟩ Hk
  iapply (step_leftG m ρ K c 0 1 rfl) $$ [$He $HO $HC0 $HL0]; iintro ⟨HO, HZ0, HP0⟩
  iapply (step_leftG m ρ K c 0 0 rfl) $$ [$He $HO $HC1 $HL1]; iintro ⟨HO, HZ1, HP1⟩
  iapply (step_leftG m ρ K c 0 2 rfl) $$ [$He $HO $HC2 $HL2]; iintro ⟨HO, HZ2, HP2⟩
  iapply (step_leftG m ρ K c 1 1 rfl) $$ [$He $HO $HC3 $HL3]; iintro ⟨HO, HZ3, HP3⟩
  rw [wp_ret]; imodintro
  iapply Hk
  iframe HO HZ0 HP0 HZ1 HP1 HZ2 HP2 HZ3 HP3

/-- The next three have left. -/
theorem part13_run {Kt : _ → sProp 𝕄} :
    iprop(env m ρ K ∗ owing c 12 ∗ sentRes c (kG 1 0) ∗ leftRes c (kG 1 0) ∗ sentRes c (kG 1 2) ∗ leftRes c (kG 1 2) ∗ sentRes c (kR 1) ∗ leftRes c (kR 1))
      ⊢ iprop((owing c 12 ∗ semVal (sCell c (kG 1 0)) 0 ∗ ptsP m ρ c 1 (shareOf 0) ∗ semVal (sCell c (kG 1 2)) 0 ∗ ptsP m ρ c 1 (shareOf 2) ∗ semVal (sCell c (kR 1)) 0 ∗ ptsQ m ρ c (peer c 1) -∗ Kt ⟨⟩)
        -∗ wp frame (wpE (defs₀ (F := F)) 𝒱₀ (c : Thread nD τ) none) Set.univ (k0_part13 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 c) Kt) := by
  simp only [k0_part13_eq_skeleton]; unfold k0_part13_skel
  simp only [semSignalWord, semWaitWord, Prog.lift, Prog.bind_op, Prog.bind_ret, Prog.pure_eq_ret, Prog.bind_assoc, wp_deviceId]
  iintro ⟨#He, HO, HC0, HL0, HC1, HL1, HC2, HL2⟩ Hk
  iapply (step_leftG m ρ K c 1 0 rfl) $$ [$He $HO $HC0 $HL0]; iintro ⟨HO, HZ0, HP0⟩
  iapply (step_leftG m ρ K c 1 2 rfl) $$ [$He $HO $HC1 $HL1]; iintro ⟨HO, HZ1, HP1⟩
  iapply (step_leftR m ρ K c 1 rfl) $$ [$He $HO $HC2 $HL2]; iintro ⟨HO, HZ2, HP2⟩
  rw [wp_ret]; imodintro
  iapply Hk
  iframe HO HZ0 HP0 HZ1 HP1 HZ2 HP2

end Parts

end Cert.KernelIdeal.Mlp
-- ==== Proof.KernelIdeal.Body.lean ====
/-
# The body of the kernel

The parts put together: from a device's own buffers, its rights to signal and to send and its places among the waits,
to the same buffers with their final contents and all its semaphores back at zero.
-/
module

public import proofs.«01_k».proof.Proof.KernelIdeal.Parts

@[expose] public section

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 19 → ℕ)

variable (c : Dev nD)

/-- All nine transfers' rights, -/
def sendAll : sProp 𝕄 :=
  iprop(sendRes c (peer c 0) (kG 0 0)
    ∗ sendRes c (peer c 1) (kG 0 1)
    ∗ sendRes c (peer c 2) (kG 0 2)
    ∗ sendRes c (peer c 0) (kG 1 0)
    ∗ sendRes c (peer c 1) (kG 1 1)
    ∗ sendRes c (peer c 2) (kG 1 2)
    ∗ sendRes c (peer c 0) (kR 0)
    ∗ sendRes c (peer c 1) (kR 1)
    ∗ sendRes c (peer c 2) (kR 2))
/-- all nine arrivals, -/
def recvAll : sProp 𝕄 :=
  iprop(recvRes c (kG 0 0)
    ∗ recvRes c (kG 0 1)
    ∗ recvRes c (kG 0 2)
    ∗ recvRes c (kG 1 0)
    ∗ recvRes c (kG 1 1)
    ∗ recvRes c (kG 1 2)
    ∗ recvRes c (kR 0)
    ∗ recvRes c (kR 1)
    ∗ recvRes c (kR 2))
/-- and all nine places from which a device waits for its own transfers. -/
def leftAll : sProp 𝕄 :=
  iprop(leftRes c (kG 0 0)
    ∗ leftRes c (kG 0 1)
    ∗ leftRes c (kG 0 2)
    ∗ leftRes c (kG 1 0)
    ∗ leftRes c (kG 1 1)
    ∗ leftRes c (kG 1 2)
    ∗ leftRes c (kR 0)
    ∗ leftRes c (kR 1)
    ∗ leftRes c (kR 2))
/-- The right to signal the three others. -/
def barToks : sProp 𝕄 :=
  iprop(dutyTok ER (barCell (peer c 0)) 0 0 ∗ dutyTok ER (barCell (peer c 1)) 0 1 ∗ dutyTok ER (barCell (peer c 2)) 0 2)
/-- All semaphores of the device at zero. -/
def zeros : sProp 𝕄 :=
  iprop(semVal (barCell c) 0
    ∗ (semVal (sCell c (kG 0 0)) 0
    ∗ semVal (sCell c (kG 0 1)) 0
    ∗ semVal (sCell c (kG 0 2)) 0
    ∗ semVal (sCell c (kG 1 0)) 0
    ∗ semVal (sCell c (kG 1 1)) 0
    ∗ semVal (sCell c (kG 1 2)) 0
    ∗ semVal (sCell c (kR 0)) 0
    ∗ semVal (sCell c (kR 1)) 0
    ∗ semVal (sCell c (kR 2)) 0)
    ∗ semVal (vCell c (kG 0 0)) 0
    ∗ semVal (vCell c (kG 0 1)) 0
    ∗ semVal (vCell c (kG 0 2)) 0
    ∗ semVal (vCell c (kG 1 0)) 0
    ∗ semVal (vCell c (kG 1 1)) 0
    ∗ semVal (vCell c (kG 1 2)) 0
    ∗ semVal (vCell c (kR 0)) 0
    ∗ semVal (vCell c (kR 1)) 0
    ∗ semVal (vCell c (kR 2)) 0)
/-- The three buffers of the kernel's own, with anything in them, -/
def scratchAny : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))
/-- and the staging buffers of the operands. -/
def operands : sProp 𝕄 :=
  iprop(stg c cc0_stg0_0 (xs m ρ c) ∗ stg c cc0_stg1_0 (wi0 m ρ c) ∗ stg c cc0_stg2_0 (wo0 m ρ c) ∗ stg c cc0_stg3_0 (wi1 m ρ c)
    ∗ stg c cc0_stg4_0 (wo1 m ρ c) ∗ stg c cc0_stg5_0 (wi2 m ρ c) ∗ stg c cc0_stg6_0 (wo2 m ρ c))

omit [FloatOps F] in
/-- Three empty slots are what a device lends a peer. -/
theorem slots_pack (p : Dev nD) (j : Fin 3) : iprop(anyG p 0 j ∗ anyG p 1 j ∗ anyR p j) ⊢ slots (F := F) p j := by
  unfold slots; exact Laws.entails_refl _
omit [FloatOps F] in
/-- What a device lends a peer is three empty slots. -/
theorem slots_open (p : Dev nD) (j : Fin 3) : slots (F := F) p j ⊢ iprop(anyG p 0 j ∗ anyG p 1 j ∗ anyR p j) := by
  unfold slots; exact Laws.entails_refl _

/-- The scratch buffers from their pieces. -/
theorem P_back : iprop((ptsP m ρ c 0 (shareOf 0) ∗ ptsP m ρ c 0 (shareOf 1) ∗ ptsP m ρ c 0 (shareOf 2))
      ∗ (ptsP m ρ c 1 (shareOf 0) ∗ ptsP m ρ c 1 (shareOf 1) ∗ ptsP m ρ c 1 (shareOf 2))
      ∗ (ptsQ m ρ c c ∗ ptsQ m ρ c (peer c 0) ∗ ptsQ m ρ c (peer c 1) ∗ ptsQ m ρ c (peer c 2)))
    ⊢ iprop(∃ f : Buf (Elt F) ((c : Thread nD τ).loc cc0_scratch0), ((c : Thread nD τ).loc cc0_scratch0) ↦{fullShare} f) := by
  iintro ⟨H0, H1, H2⟩
  ihave H0 := (ptsP_shares m ρ c 0).2 $$ H0
  ihave H1 := (ptsP_shares m ρ c 1).2 $$ H1
  ihave H2 := (Entails.of_eq (ptsP_rows m ρ c).symm) $$ H2
  ihave H := (Entails.of_eq (P_join m ρ c)) $$ [$H0 $H1 $H2]
  iexists _; iexact H
/-- The six filled slots of the first two layers are their buffer. -/
theorem G_back : iprop(ptsG m ρ c 0 0 ∗ ptsG m ρ c 0 1 ∗ ptsG m ρ c 0 2 ∗ ptsG m ρ c 1 0 ∗ ptsG m ρ c 1 1 ∗ ptsG m ρ c 1 2)
    ⊢ iprop(∃ f : Buf (Elt F) ((c : Thread nD τ).loc cc0_scratch1), ((c : Thread nD τ).loc cc0_scratch1) ↦{fullShare} f) := by
  iintro H
  ihave H := (Entails.of_eq (G_join m ρ c)) $$ H
  iexists _; iexact H
/-- The three filled slots of the last layer are their buffer. -/
theorem R_back : iprop(ptsR m ρ c 0 ∗ ptsR m ρ c 1 ∗ ptsR m ρ c 2)
    ⊢ iprop(∃ f : Buf (Elt F) ((c : Thread nD τ).loc cc0_scratch2), ((c : Thread nD τ).loc cc0_scratch2) ↦{fullShare} f) := by
  iintro H
  ihave H := (Entails.of_eq (R_join m ρ c)) $$ H
  iexists _; iexact H

set_option maxHeartbeats 1600000 in
/-- The whole body on one device. -/
theorem body_run (X : (cc0_stg7_0 : Ref sig .tc).ty.Contents (Elt F)) {Kt : PUnit → sProp 𝕄} :
    iprop(env m ρ K ∗ owing c 0 ∗ barToks c ∗ sendAll c ∗ barRes c ∗ recvAll c ∗ leftAll c ∗ scratchAny c ∗ operands m ρ c ∗ stg c cc0_stg7_0 X)
      ⊢ iprop((owing c 12 ∗ zeros c ∗ scratchAny c ∗ operands m ρ c ∗ stg c cc0_stg7_0 (out m ρ c) -∗ Kt ⟨⟩)
        -∗ wp frame (wpE (defs₀ (F := F)) 𝒱₀ (c : Thread nD τ) none) Set.univ (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4) Kt) := by
  simp only [cc0_body_eq_skeleton]; unfold cc0_body_skel
  unfold barToks sendAll recvAll leftAll scratchAny operands
  iintro ⟨#He, HO, ⟨B0, B1, B2⟩, ⟨T00, T01, T02, T10, T11, T12, T20, T21, T22⟩, HB, ⟨V00, V01, V02, V10, V11, V12, V20, V21, V22⟩, ⟨L00, L01, L02, L10, L11, L12, L20, L21, L22⟩, ⟨HP, HG, HR⟩, ⟨W0, W1, W2, W3, W4, W5, W6⟩, W7⟩ Hk
  ihave HP := (P_split c) $$ HP
  icases HP with ⟨P0, P1, P2⟩
  ihave HG := (G_split c) $$ HG
  icases HG with ⟨G00, G01, G02, G10, G11, G12⟩
  ihave HR := (R_split c) $$ HR
  icases HR with ⟨R0, R1, R2⟩
  ihave U0 := (slots_pack c 0) $$ [$G00 $G10 $R0]
  ihave U1 := (slots_pack c 1) $$ [$G01 $G11 $R1]
  ihave U2 := (slots_pack c 2) $$ [$G02 $G12 $R2]
  rw [wp_bind]
  iapply (part1_run m ρ K c) $$ [$He $HO $B0 $B1 $B2 $U2 $U1 $U0 $W1 $W3 $W5 $W2 $W4]
  iintro ⟨HO, W1, W3, W5, W2, W4⟩
  rw [wp_bind]
  iapply (part2_run m ρ K c _) $$ [$He $HO $HB $W6 $W0 $P0 $T01]
  iintro ⟨HO, ZB, W6, W0, P00, P02, C01, U0, G11, R1, U2⟩
  ihave U0 := (slots_open (peer c 0) 0) $$ U0
  icases U0 with ⟨G00, G10, R0⟩
  ihave U2 := (slots_open (peer c 2) 2) $$ U2
  icases U2 with ⟨G02, G12, R2⟩
  rw [wp_bind]
  iapply (part3_run m ρ K c _ _) $$ [$He $HO $P00 $P02 $G00 $G02 $T00 $T02]
  iintro ⟨HO, C00, C02⟩
  rw [wp_bind]
  iapply (part4_run m ρ K c _ _) $$ [$He $HO $V00 $V02]
  iintro ⟨HO, Y00, Y02, D00, D02⟩
  rw [wp_bind]
  iapply (part5_run m ρ K c _ _) $$ [$He $HO $V01 $P1]
  iintro ⟨HO, Y01, D01, P10, P11, P12⟩
  rw [wp_bind]
  iapply (part6_run m ρ K c _) $$ [$He $HO $P11 $P10 $G11 $G10 $T11 $T10]
  iintro ⟨HO, C11, C10⟩
  rw [wp_bind]
  iapply (part7_run m ρ K c _ _) $$ [$He $HO $P12 $G12 $T12 $V10 $V12]
  iintro ⟨HO, C12, Y10, Y12, D10, D12⟩
  rw [wp_bind]
  iapply (part8_run m ρ K c _ _) $$ [$He $HO $V11 $P2]
  iintro ⟨HO, Y11, D11, Q, Q0, Q1, Q2⟩
  rw [wp_bind]
  iapply (part9_run m ρ K c _ _ _) $$ [$He $HO $Q1 $Q0 $R1 $R0 $T21 $T20]
  iintro ⟨HO, C21, C20⟩
  rw [wp_bind]
  iapply (part10_run m ρ K c _ _ _) $$ [$He $HO $Q2 $R2 $T22 $Q $V20]
  iintro ⟨HO, C22, Q, Y20, D20⟩
  rw [wp_bind]
  iapply (part11_run m ρ K c X _) $$ [$He $HO $V22 $V21 $W7]
  iintro ⟨HO, Y22, Y21, D22, D21, W7⟩
  rw [wp_bind]
  iapply (part12_run m ρ K c) $$ [$He $HO $C01 $L01 $C00 $L00 $C02 $L02 $C11 $L11]
  iintro ⟨HO, Z01, P01, Z00, P00, Z02, P02, Z11, P11⟩
  rw [wp_bind]
  iapply (part13_run m ρ K c) $$ [$He $HO $C10 $L10 $C12 $L12 $C21 $L21]
  iintro ⟨HO, Z10, P10, Z12, P12, Z21, Q1⟩
  simp only [Prog.lift, Prog.bind_op, Prog.bind_ret, Prog.pure_eq_ret]
  iapply (step_leftR m ρ K c 0 rfl) $$ [$He $HO $C20 $L20]; iintro ⟨HO, Z20, Q0⟩
  iapply (step_leftR m ρ K c 2 rfl) $$ [$He $HO $C22 $L22]; iintro ⟨HO, Z22, Q2⟩
  rw [wp_ret]; imodintro
  ihave HP := (P_back m ρ c) $$ [$P00 $P01 $P02 $P10 $P11 $P12 $Q $Q0 $Q1 $Q2]
  ihave HG := (G_back m ρ c) $$ [$D00 $D01 $D02 $D10 $D11 $D12]
  ihave HR := (R_back m ρ c) $$ [$D20 $D21 $D22]
  iapply Hk
  unfold zeros
  iframe HO ZB Z00 Z01 Z02 Z10 Z11 Z12 Z20 Z21 Z22 Y00 Y01 Y02 Y10 Y11 Y12 Y20 Y21 Y22 HP HG HR W0 W1 W2 W3 W4 W5 W6 W7

end Cert.KernelIdeal.Mlp

end
-- ==== Proof.KernelIdeal.Region.lean ====
/-
# The kernel's one region

What the region's launch is told of the kernel: what the operands' and the result's windows hold before and after the
body, what the body starts from and what it leaves, and that the body does leave it.
-/
module

public import proofs.«01_k».proof.Proof.KernelIdeal.Body
public import proofs.«01_k».proof.Proof.Gen.KernelIdeal.Points
public import proofs.«01_k».proof.Proof.Gen.KernelIdeal.Launch

@[expose] public section

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the body starts from and leaves -/

/-- The credits a device is given at the launch: what the three others signal it, and what arrives. -/
def credits (c : Dev nD) : sProp 𝕄 :=
  iprop(cred (tallyAt (barCell c) () 3) ∗ bigSep Finset.univ fun k : Fin 9 => cred (tallyAt (vCell c k) () (xamt k)))

/-- The records of the cells, under the names `K`. -/
def records (K : Dev nD × Fin 19 → ℕ) : sProp 𝕄 :=
  iprop(bigSep Finset.univ (fun x : Dev nD × Fin 19 => cellInv ER (Rd m ρ) (K x) (kcell x))
    ∗ bigSep Finset.univ (fun x : Dev nD × Fin 19 => reached ER (kcell x) 0))

/-- The records can be used any number of times. -/
instance records_persistent (K : Dev nD × Fin 19 → ℕ) : Persistent (records m ρ K) := by unfold records; infer_instance

/-- What is a device's own from the start: its places at its nineteen semaphores and its rights to pay. -/
def places (c : Dev nD) : sProp 𝕄 :=
  iprop((bigSep Finset.univ fun i : Fin 19 => atPos ER (kcell (c, i)) 0 ∅ 0) ∗ barToks c ∗ sendAll c)

/-- All a device starts from. -/
def start (c : Dev nD) : sProp 𝕄 :=
  iprop((∃ K, records m ρ K ∗ places c) ∗ credits c ∗ levAts L lv)

/-- What the body starts from beside the staging buffers. -/
def Φ₀ (c : Dev nD) : sProp 𝕄 := iprop(start m ρ c ∗ scratchAny c)
/-- What the body ends with beside the staging buffers. -/
def Φ₁ (c : Dev nD) : sProp 𝕄 := iprop(zeros (F := F) c ∗ scratchAny c)

/-- What each window holds before and after the body, and what the body owes. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xs m ρ c
    | ⟨1, _⟩ => wi0 m ρ c
    | ⟨2, _⟩ => wo0 m ρ c
    | ⟨3, _⟩ => wi1 m ρ c
    | ⟨4, _⟩ => wo1 m ρ c
    | ⟨5, _⟩ => wi2 m ρ c
    | ⟨6, _⟩ => wo2 m ρ c
    | ⟨7, _⟩ => out m ρ c
  Φ t := match t with
    | ⟨0, _⟩ => Φ₀ m ρ c
    | ⟨_ + 1, _⟩ => Φ₁ c
  q _ := fullShare
  owed t := match t with
    | ⟨0, _⟩ => owed c 0
    | ⟨_ + 1, _⟩ => 0

/-- The pipeline has a single step. -/
theorem cfg0_N : cfg0.N = 1 := by decide
/-- The one point of the grid. -/
def t₀ : Fin cfg0.N := ⟨0, by rw [cfg0_N]; decide⟩
/-- Every step is that one. -/
theorem fin_N (t : Fin cfg0.N) : t = t₀ := by
  obtain ⟨t, ht⟩ := t; have := cfg0_N; exact Fin.ext (by simp only [t₀]; omega)

omit [FloatOps F] in
/-- Owning a whole buffer with known contents, in the two ways of saying it. -/
theorem owns_whole (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  have h : (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
    unfold owns; simp only [Memref.view_whole, View.read_whole, View.set_whole]
  have h1 : iprop(∃ f : Buf (Elt F) (((c : Dev nD) : Thread nD τ).loc b), ⌜f = X⌝ ∗ (((c : Thread nD τ).loc b) ↦{fullShare} f)) ⊢ (stg c b X : sProp 𝕄) := by
    iintro ⟨%f, %e, H⟩; subst e; iexact H
  have h2 : (stg c b X : sProp 𝕄) ⊢ iprop(∃ f : Buf (Elt F) (((c : Dev nD) : Thread nD τ).loc b), ⌜f = X⌝ ∗ (((c : Thread nD τ).loc b) ↦{fullShare} f)) := by
    iintro H; iexists X; isplitr
    · ipureintro; rfl
    · iexact H
  exact h.trans (BI.Entails.antisymm h1 h2)

/-! ## The start, taken apart -/

omit [FloatOps F] in
/-- The places at the nineteen semaphores, one by one: the barrier's, the sources', the targets'. -/
theorem atPos_chain (c : Dev nD) : (bigSep Finset.univ fun i : Fin 19 => (atPos ER (kcell (c, i)) 0 ∅ 0 : sProp 𝕄))
    = iprop(atPos ER (barCell c) 0 ∅ 0 ∗ (atPos ER (sCell c (kG 0 0)) 0 ∅ 0 ∗ atPos ER (sCell c (kG 0 1)) 0 ∅ 0 ∗ atPos ER (sCell c (kG 0 2)) 0 ∅ 0
      ∗ atPos ER (sCell c (kG 1 0)) 0 ∅ 0 ∗ atPos ER (sCell c (kG 1 1)) 0 ∅ 0 ∗ atPos ER (sCell c (kG 1 2)) 0 ∅ 0
      ∗ atPos ER (sCell c (kR 0)) 0 ∅ 0 ∗ atPos ER (sCell c (kR 1)) 0 ∅ 0 ∗ atPos ER (sCell c (kR 2)) 0 ∅ 0)
      ∗ atPos ER (vCell c (kG 0 0)) 0 ∅ 0 ∗ atPos ER (vCell c (kG 0 1)) 0 ∅ 0 ∗ atPos ER (vCell c (kG 0 2)) 0 ∅ 0
      ∗ atPos ER (vCell c (kG 1 0)) 0 ∅ 0 ∗ atPos ER (vCell c (kG 1 1)) 0 ∅ 0 ∗ atPos ER (vCell c (kG 1 2)) 0 ∅ 0
      ∗ atPos ER (vCell c (kR 0)) 0 ∅ 0 ∗ atPos ER (vCell c (kR 1)) 0 ∅ 0 ∗ atPos ER (vCell c (kR 2)) 0 ∅ 0) := by
  rw [bigSep_univ_eq_bigSepL [(0 : Fin 19), 1, 2, 3, 4, 5, 6, 7, 8, 9, 10, 11, 12, 13, 14, 15, 16, 17, 18] (by decide) (by decide)]
  refine BI.Entails.antisymm ?_ ?_
  · show iprop(atPos ER (barCell c) 0 ∅ 0 ∗ atPos ER (sCell c (kG 0 0)) 0 ∅ 0 ∗ atPos ER (sCell c (kG 0 1)) 0 ∅ 0 ∗ atPos ER (sCell c (kG 0 2)) 0 ∅ 0
      ∗ atPos ER (sCell c (kG 1 0)) 0 ∅ 0 ∗ atPos ER (sCell c (kG 1 1)) 0 ∅ 0 ∗ atPos ER (sCell c (kG 1 2)) 0 ∅ 0
      ∗ atPos ER (sCell c (kR 0)) 0 ∅ 0 ∗ atPos ER (sCell c (kR 1)) 0 ∅ 0 ∗ atPos ER (sCell c (kR 2)) 0 ∅ 0
      ∗ atPos ER (vCell c (kG 0 0)) 0 ∅ 0 ∗ atPos ER (vCell c (kG 0 1)) 0 ∅ 0 ∗ atPos ER (vCell c (kG 0 2)) 0 ∅ 0
      ∗ atPos ER (vCell c (kG 1 0)) 0 ∅ 0 ∗ atPos ER (vCell c (kG 1 1)) 0 ∅ 0 ∗ atPos ER (vCell c (kG 1 2)) 0 ∅ 0
      ∗ atPos ER (vCell c (kR 0)) 0 ∅ 0 ∗ atPos ER (vCell c (kR 1)) 0 ∅ 0 ∗ atPos ER (vCell c (kR 2)) 0 ∅ 0) ⊢ _
    iintro ⟨H0, H1, H2, H3, H4, H5, H6, H7, H8, H9, G1, G2, G3, G4, G5, G6, G7, G8, G9⟩
    iframe H0 H1 H2 H3 H4 H5 H6 H7 H8 H9 G1 G2 G3 G4 G5 G6 G7 G8 G9
  · show _ ⊢ iprop(atPos ER (barCell c) 0 ∅ 0 ∗ atPos ER (sCell c (kG 0 0)) 0 ∅ 0 ∗ atPos ER (sCell c (kG 0 1)) 0 ∅ 0 ∗ atPos ER (sCell c (kG 0 2)) 0 ∅ 0
      ∗ atPos ER (sCell c (kG 1 0)) 0 ∅ 0 ∗ atPos ER (sCell c (kG 1 1)) 0 ∅ 0 ∗ atPos ER (sCell c (kG 1 2)) 0 ∅ 0
      ∗ atPos ER (sCell c (kR 0)) 0 ∅ 0 ∗ atPos ER (sCell c (kR 1)) 0 ∅ 0 ∗ atPos ER (sCell c (kR 2)) 0 ∅ 0
      ∗ atPos ER (vCell c (kG 0 0)) 0 ∅ 0 ∗ atPos ER (vCell c (kG 0 1)) 0 ∅ 0 ∗ atPos ER (vCell c (kG 0 2)) 0 ∅ 0
      ∗ atPos ER (vCell c (kG 1 0)) 0 ∅ 0 ∗ atPos ER (vCell c (kG 1 1)) 0 ∅ 0 ∗ atPos ER (vCell c (kG 1 2)) 0 ∅ 0
      ∗ atPos ER (vCell c (kR 0)) 0 ∅ 0 ∗ atPos ER (vCell c (kR 1)) 0 ∅ 0 ∗ atPos ER (vCell c (kR 2)) 0 ∅ 0)
    iintro ⟨H0, ⟨H1, H2, H3, H4, H5, H6, H7, H8, H9⟩, G1, G2, G3, G4, G5, G6, G7, G8, G9⟩
    iframe H0 H1 H2 H3 H4 H5 H6 H7 H8 H9 G1 G2 G3 G4 G5 G6 G7 G8 G9

omit [FloatOps F] in
/-- The nine arrivals' credits, one by one. -/
theorem cred_chain (c : Dev nD) : (bigSep Finset.univ fun k : Fin 9 => (cred (tallyAt (vCell c k) () (xamt k)) : sProp 𝕄))
    = iprop(cred (tallyAt (vCell c (kG 0 0)) () (xamt (kG 0 0))) ∗ cred (tallyAt (vCell c (kG 0 1)) () (xamt (kG 0 1))) ∗ cred (tallyAt (vCell c (kG 0 2)) () (xamt (kG 0 2)))
      ∗ cred (tallyAt (vCell c (kG 1 0)) () (xamt (kG 1 0))) ∗ cred (tallyAt (vCell c (kG 1 1)) () (xamt (kG 1 1))) ∗ cred (tallyAt (vCell c (kG 1 2)) () (xamt (kG 1 2)))
      ∗ cred (tallyAt (vCell c (kR 0)) () (xamt (kR 0))) ∗ cred (tallyAt (vCell c (kR 1)) () (xamt (kR 1))) ∗ cred (tallyAt (vCell c (kR 2)) () (xamt (kR 2)))) :=
  bigSep_univ_eq_bigSepL [kG 0 0, kG 0 1, kG 0 2, kG 1 0, kG 1 1, kG 1 2, kR 0, kR 1, kR 2] (by decide) (by decide) _

omit [FloatOps F] in
/-- Places and credits are what a device holds before its waits. -/
theorem waits_intro (c : Dev nD) : iprop((bigSep Finset.univ fun i : Fin 19 => (atPos ER (kcell (c, i)) 0 ∅ 0 : sProp 𝕄)) ∗ credits c)
    ⊢ iprop(barRes c ∗ recvAll c ∗ leftAll (F := F) c) := by
  unfold credits barRes recvAll leftAll recvRes leftRes
  rw [atPos_chain, cred_chain]
  iintro ⟨⟨H0, ⟨H1, H2, H3, H4, H5, H6, H7, H8, H9⟩, G1, G2, G3, G4, G5, G6, G7, G8, G9⟩, C0, C1, C2, C3, C4, C5, C6, C7, C8, C9⟩
  iframe H0 C0 H1 H2 H3 H4 H5 H6 H7 H8 H9 G1 G2 G3 G4 G5 G6 G7 G8 G9 C1 C2 C3 C4 C5 C6 C7 C8 C9

/-- The records and the ranks are what every step of the body may use. -/
theorem env_intro (K : Dev nD × Fin 19 → ℕ) : iprop(records m ρ K ∗ levAts L lv) ⊢ env m ρ K := by
  unfold records env
  iintro ⟨⟨HI, HR⟩, HL⟩
  iframe HI HR HL
omit [FloatOps F] in
/-- A device that owes its first debts is at payment zero. -/
theorem owing_intro (c : Dev nD) (W : Waits sig Unit) (O : CellTallies nD τ sig Unit) (h : O = owed c 0) :
    (owes (c : Thread nD τ) O W : sProp 𝕄) ⊢ owing c 0 := by
  subst h
  unfold owing
  iintro H; iexists W; iexact H

/-! ## The body's obligation -/

/-- The body finds in window 0 the argument fetched into it. -/
theorem before0 (c : Dev nD) (d) : (dats m ρ 0 c).before (0 : Fin 8) t₀ d = xs m ρ c := by
  unfold Dat.before; rw [if_pos (fetch0_0 t₀)]; rfl
/-- The body finds in window 1 the argument fetched into it. -/
theorem before1 (c : Dev nD) (d) : (dats m ρ 0 c).before (1 : Fin 8) t₀ d = wi0 m ρ c := by
  unfold Dat.before; rw [if_pos (fetch0_1 t₀)]; rfl
/-- The body finds in window 2 the argument fetched into it. -/
theorem before2 (c : Dev nD) (d) : (dats m ρ 0 c).before (2 : Fin 8) t₀ d = wo0 m ρ c := by
  unfold Dat.before; rw [if_pos (fetch0_2 t₀)]; rfl
/-- The body finds in window 3 the argument fetched into it. -/
theorem before3 (c : Dev nD) (d) : (dats m ρ 0 c).before (3 : Fin 8) t₀ d = wi1 m ρ c := by
  unfold Dat.before; rw [if_pos (fetch0_3 t₀)]; rfl
/-- The body finds in window 4 the argument fetched into it. -/
theorem before4 (c : Dev nD) (d) : (dats m ρ 0 c).before (4 : Fin 8) t₀ d = wo1 m ρ c := by
  unfold Dat.before; rw [if_pos (fetch0_4 t₀)]; rfl
/-- The body finds in window 5 the argument fetched into it. -/
theorem before5 (c : Dev nD) (d) : (dats m ρ 0 c).before (5 : Fin 8) t₀ d = wi2 m ρ c := by
  unfold Dat.before; rw [if_pos (fetch0_5 t₀)]; rfl
/-- The body finds in window 6 the argument fetched into it. -/
theorem before6 (c : Dev nD) (d) : (dats m ρ 0 c).before (6 : Fin 8) t₀ d = wo2 m ρ c := by
  unfold Dat.before; rw [if_pos (fetch0_6 t₀)]; rfl

set_option maxRecDepth 4000 in
/-- All that the body is given. -/
def bodyPre (c : Dev nD) : sProp 𝕄 :=
  iprop(Φ₀ m ρ c ∗ (dats m ρ 0 c).owesAt () t₀.castSucc
    ∗ (∃ d, stg c cc0_stg0_0 ((dats m ρ 0 c).before (0 : Fin 8) t₀ d)) ∗ (∃ d, stg c cc0_stg1_0 ((dats m ρ 0 c).before (1 : Fin 8) t₀ d)) ∗ (∃ d, stg c cc0_stg2_0 ((dats m ρ 0 c).before (2 : Fin 8) t₀ d)) ∗ (∃ d, stg c cc0_stg3_0 ((dats m ρ 0 c).before (3 : Fin 8) t₀ d)) ∗ (∃ d, stg c cc0_stg4_0 ((dats m ρ 0 c).before (4 : Fin 8) t₀ d)) ∗ (∃ d, stg c cc0_stg5_0 ((dats m ρ 0 c).before (5 : Fin 8) t₀ d)) ∗ (∃ d, stg c cc0_stg6_0 ((dats m ρ 0 c).before (6 : Fin 8) t₀ d)) ∗ (∃ d, stg c cc0_stg7_0 ((dats m ρ 0 c).before (7 : Fin 8) t₀ d)))

set_option maxRecDepth 4000 in
/-- All that the body gives back: its arguments as they were and its result in the last window. -/
def bodyPost (c : Dev nD) : sProp 𝕄 :=
  iprop(Φ₁ (F := F) c ∗ (dats m ρ 0 c).owesAt () t₀.succ
    ∗ stg c cc0_stg0_0 (xs m ρ c) ∗ stg c cc0_stg1_0 (wi0 m ρ c) ∗ stg c cc0_stg2_0 (wo0 m ρ c) ∗ stg c cc0_stg3_0 (wi1 m ρ c) ∗ stg c cc0_stg4_0 (wo1 m ρ c) ∗ stg c cc0_stg5_0 (wi2 m ρ c) ∗ stg c cc0_stg6_0 (wo2 m ρ c) ∗ stg c cc0_stg7_0 (out m ρ c))

set_option maxRecDepth 4000 in
/-- The body, from what the region gives it to what the region wants of it. -/
theorem body_sound (c : Dev nD) : bodyPre m ρ c ⊢ wp frame (wpE (defs₀ (F := F)) 𝒱₀ (c : Thread nD τ) none) Set.univ
    (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4) (fun _ => bodyPost m ρ c) := by
  unfold bodyPre Φ₀ start places
  iintro ⟨⟨⟨⟨%K, Hrec, Hat, Hb, Ht⟩, Hc, Hlev⟩, Hscr⟩, Ho, ⟨%d0, H0⟩, ⟨%d1, H1⟩, ⟨%d2, H2⟩, ⟨%d3, H3⟩, ⟨%d4, H4⟩, ⟨%d5, H5⟩, ⟨%d6, H6⟩, ⟨%d7, H7⟩⟩
  rw [before0, before1, before2, before3, before4, before5, before6]
  unfold Dat.owesAt Pipeline.owesWithin
  icases Ho with ⟨%W, %hW, HO⟩
  ihave Hw := (waits_intro c) $$ [$Hat $Hc]
  icases Hw with ⟨HB, HV, HL⟩
  ihave He := (env_intro m ρ K) $$ [$Hrec $Hlev]
  ihave HO := (owing_intro c W ((dats m ρ 0 c).owed t₀.castSucc) rfl) $$ HO
  iapply (body_run m ρ K c _) $$ [He HO Hb Ht HB HV HL Hscr H0 H1 H2 H3 H4 H5 H6 H7]
  · unfold operands
    iframe He HO Hb Ht HB HV HL Hscr H0 H1 H2 H3 H4 H5 H6 H7
  iintro ⟨HO, Hz, Hscr, Hops, H7⟩
  unfold operands bodyPost Φ₁ Dat.owesAt Pipeline.owesWithin owing
  icases Hops with ⟨H0, H1, H2, H3, H4, H5, H6⟩
  icases HO with ⟨%W', HO⟩
  isplitl [Hz Hscr]
  · iframe Hz Hscr
  isplitl [HO]
  · iexists W'
    isplitr
    · ipureintro; exact fun _ _ => Or.inl trivial
    · rw [owed_done]; iexact HO
  iframe H0 H1 H2 H3 H4 H5 H6 H7

set_option maxRecDepth 4000 in
/-- The body does what the pipeline asks of it. -/
theorem body_obligation (c : Dev nD) : BodyObligation (dats (F := F) m ρ 0 c) (defs₀ (F := F)) 𝒱₀ () Set.univ := fun t => by
  rw [fin_N t]
  rw [bigSep_W0, bigSep_W0]
  simp only [owns_whole]
  exact body_sound m ρ c

end Cert.KernelIdeal.Mlp

end
-- ==== Proof.KernelIdeal.Launch.lean ====
/-
# The launch and the run

From all semaphores at zero to every device's start, and the run of the whole program from there: every execution ends,
with the result's array as the body left it, the operands' arrays as they were and every semaphore at zero again.
-/
module

public import proofs.«01_k».proof.Proof.KernelIdeal.Region
public import Idealize.ShloMosaic.Lib.Pipeline.CollectiveSegs

@[expose] public section

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores -/

/-- The eighteen transfer semaphores. -/
def osem (i : Fin 18) : SemLoc sig := .dma ⟨8 + i.val, by have h := i.isLt; show _ < 26; omega⟩

/-- These are the semaphores the kernel allocates for itself, each once. -/
theorem ownSemFacts : Pipeline.OwnSemFacts cfg0.spec osem := by decide

/-- Every window's array is held whole. -/
theorem share_eq (c : Dev nD) (w : Fin cfg0.W) : (dats m ρ 0 c).share w = fullShare := by unfold Dat.share; split <;> rfl

omit [FloatOps F] in
/-- All nineteen at zero: the eighteen and the barrier. -/
theorem sems0 (c : Dev nD) :
    iprop(Pipeline.ownSems0 (Ix := Unit) (Name := ℕ) (U := UU) (Lvl := ℕ) (Val := Elt F) (τ := τ) osem c ∗ unscopedSems0 c)
      ⊢ (bigSep Finset.univ fun i : Fin 19 => semVal (kcell (c, i)) 0 : sProp 𝕄) := by
  rw [Pipeline.ownSems0_eq_of_list c osem [0, 1, 2, 3, 4, 5, 6, 7, 8, 9, 10, 11, 12, 13, 14, 15, 16, 17] (by decide) (by decide)]
  unfold unscopedSems0
  rw [bigSep_eq_bigSepL_of_eq [SemLoc.reg barS] (by decide) (by decide),
    bigSep_univ_eq_bigSepL [(0 : Fin 19), 1, 2, 3, 4, 5, 6, 7, 8, 9, 10, 11, 12, 13, 14, 15, 16, 17, 18] (by decide) (by decide),
    bigSepL_singleton]
  show _ ⊢ iprop(semVal (kcell (c, 0)) 0
    ∗ bigSepL [(1 : Fin 19), 2, 3, 4, 5, 6, 7, 8, 9, 10, 11, 12, 13, 14, 15, 16, 17, 18] fun i => semVal (kcell (c, i)) 0)
  iintro ⟨H, HB⟩
  isplitl [HB]
  · iexact HB
  · iexact H

omit [FloatOps F] in
/-- And back, at the end. -/
theorem sems0_back (c : Dev nD) : zeros (F := F) c ⊢ iprop(unscopedSems0 c
    ∗ Pipeline.ownSems0 (Ix := Unit) (Name := ℕ) (U := UU) (Lvl := ℕ) (Val := Elt F) (τ := τ) osem c) := by
  rw [Pipeline.ownSems0_eq_of_list c osem [0, 1, 2, 3, 4, 5, 6, 7, 8, 9, 10, 11, 12, 13, 14, 15, 16, 17] (by decide) (by decide)]
  unfold unscopedSems0 zeros
  rw [bigSep_eq_bigSepL_of_eq [SemLoc.reg barS] (by decide) (by decide), bigSepL_singleton]
  show _ ⊢ iprop(semVal (barCell c) 0 ∗ semVal (sCell c (kG 0 0)) 0 ∗ semVal (sCell c (kG 0 1)) 0 ∗ semVal (sCell c (kG 0 2)) 0
    ∗ semVal (sCell c (kG 1 0)) 0 ∗ semVal (sCell c (kG 1 1)) 0 ∗ semVal (sCell c (kG 1 2)) 0
    ∗ semVal (sCell c (kR 0)) 0 ∗ semVal (sCell c (kR 1)) 0 ∗ semVal (sCell c (kR 2)) 0
    ∗ semVal (vCell c (kG 0 0)) 0 ∗ semVal (vCell c (kG 0 1)) 0 ∗ semVal (vCell c (kG 0 2)) 0
    ∗ semVal (vCell c (kG 1 0)) 0 ∗ semVal (vCell c (kG 1 1)) 0 ∗ semVal (vCell c (kG 1 2)) 0
    ∗ semVal (vCell c (kR 0)) 0 ∗ semVal (vCell c (kR 1)) 0 ∗ semVal (vCell c (kR 2)) 0)
  iintro ⟨H0, ⟨H1, H2, H3, H4, H5, H6, H7, H8, H9⟩, G1, G2, G3, G4, G5, G6, G7, G8, G9⟩
  iframe H0 H1 H2 H3 H4 H5 H6 H7 H8 H9 G1 G2 G3 G4 G5 G6 G7 G8 G9

/-! ## The cells and the rights to pay -/

/-- The nineteen semaphores of a device are different. -/
theorem csem_inj : ∀ i i' : Fin 19, csem i = csem i' → i = i' := by decide
/-- The semaphores of all devices are different. -/
theorem kcell_injective : Function.Injective (kcell : Dev nD × Fin 19 → GSem nD τ sig) := by
  rintro ⟨c, i⟩ ⟨c', i'⟩ h
  have h1 : c = c' := congrArg (fun g : GSem nD τ sig => g.1.1) h
  have h2 : i = i' := csem_inj i i' (congrArg Prod.snd h)
  rw [h1, h2]
/-- The semaphores of all devices. -/
def allCells : Finset (GSem nD τ sig) := Finset.univ.map ⟨kcell, kcell_injective⟩

/-- The twenty-one rights to pay at a device's semaphores: one at each, and two more at the barrier. -/
def tokSem (j : Fin 21) : SemLoc sig := if h : j.val < 19 then csem ⟨j.val, h⟩ else .reg barS
/-- The direction each right pays from. -/
def tokDuty (j : Fin 21) : Fin 3 := if j.val = 19 then 1 else if j.val = 20 then 2 else 0
/-- The twenty-one rights are different. -/
theorem tok_inj : ∀ j j' : Fin 21, tokSem j = tokSem j' → tokDuty j = tokDuty j' → j = j' := by decide
/-- Right `j` at device `c`'s semaphores. -/
abbrev tokOf (x : Dev nD × Fin 21) : GSem nD τ sig × ℕ × Fin 3 := (((x.1 : Thread nD τ), tokSem x.2), 0, tokDuty x.2)
/-- The rights of all devices are different. -/
theorem tokOf_injective : Function.Injective (tokOf : Dev nD × Fin 21 → GSem nD τ sig × ℕ × Fin 3) := by
  rintro ⟨c, j⟩ ⟨c', j'⟩ h
  have h1 : c = c' := congrArg (fun x : GSem nD τ sig × ℕ × Fin 3 => x.1.1.1) h
  have h2 : j = j' := tok_inj j j' (congrArg (fun x : GSem nD τ sig × ℕ × Fin 3 => x.1.2) h) (congrArg (fun x : GSem nD τ sig × ℕ × Fin 3 => x.2.2) h)
  rw [h1, h2]
/-- The rights of all devices. -/
def allToks : Finset (GSem nD τ sig × ℕ × Fin 3) := Finset.univ.map ⟨tokOf, tokOf_injective⟩

/-- Holding right `j` at device `c`'s semaphores. -/
abbrev tok (c : Dev nD) (j : Fin 21) : sProp 𝕄 := dutyTok ER (((c : Thread nD τ), tokSem j) : GSem nD τ sig) 0 (tokDuty j)

/-- The initial ghost state. -/
def u₀ : UU :=
  (initOf (Pipeline.cells cfgs cellOf_inj) (Pipeline.launchToks cfgs cellOf_inj), initOf allCells allToks)

/-- What a device gets of it, -/
def G (c : Dev nD) : sProp 𝕄 :=
  iprop((bigSep Finset.univ fun i : Fin 19 => roundState ER (Rd m ρ) (kcell (c, i)) 0)
    ∗ (bigSep Finset.univ fun i : Fin 19 => iprop(atPos ER (kcell (c, i)) 0 ∅ 0 ∗ reached ER (kcell (c, i)) 0))
    ∗ bigSep Finset.univ fun j : Fin 21 => tok c j)
/-- and what it holds once all devices' cells are set up. -/
def G' (c : Dev nD) : sProp 𝕄 := iprop(∃ K, records m ρ K ∗ places c)

/-- The initial state gives each device its cells, its places and its rights. -/
theorem fund_all : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun i : Fin 19 => Φ (kcell (c, i)) := by
    unfold allCells; rw [bigSep_map, bigSep_univ_prod]; rfl
  have hT : bigSep allToks (fun x => (dutyTok ER x.1 x.2.1 x.2.2 : sProp 𝕄)) = bigSep Finset.univ fun c : Dev nD => bigSep Finset.univ fun j : Fin 21 => tok c j := by
    unfold allToks; rw [bigSep_map, bigSep_univ_prod]; rfl
  iintro HX
  imod (Rounds.fund ER (Rd m ρ) allCells allToks) $$ HX with ⟨Hst, Hr, Hat, Htok⟩
  imodintro
  ihave Hst := (Entails.of_eq (hX fun g => roundState ER (Rd m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  iframe Hst Hat Hr Htok

/-- A device's semaphores at zero become shared cells. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun i => iprop(∃ κ : ℕ, cellInv ER (Rd m ρ) κ (kcell (c, i))))
          ∗ (bigSep Finset.univ fun i => iprop(atPos ER (kcell (c, i)) 0 ∅ 0 ∗ reached ER (kcell (c, i)) 0))
          ∗ bigSep Finset.univ fun j : Fin 21 => tok c j) := by
  unfold G
  iintro ⟨Hos, Hus, Hst, Hat, Htok⟩
  ihave Hv := (sems0 (F := F) c) $$ [$Hos $Hus]
  imod (show iprop((bigSep Finset.univ fun i : Fin 19 => semVal (kcell (c, i)) 0) ∗ bigSep Finset.univ fun i : Fin 19 => roundState ER (Rd m ρ) (kcell (c, i)) 0)
      ⊢ (|={Set.univ}=> bigSep Finset.univ fun i => iprop(∃ κ : ℕ, cellInv ER (Rd m ρ) κ (kcell (c, i))) : sProp 𝕄) from by
        rw [← bigSep_sep']
        exact (bigSep_mono fun i _ => (Rounds.body_intro ER (Rd m ρ) (kcell (c, i))).trans inv_alloc).trans (bigSep_fupd _ _)) $$ [Hv Hst] with Hinv
  · iframe Hv Hst
  imodintro
  iframe Hinv Hat Htok

/-! ## The rights to pay, dealt to those who pay -/

/-- Going `d + 1` places on, as a permutation of the devices. -/
def around (d : Fin 3) : Dev nD ≃ Dev nD := ⟨fun c => peer c d, fun c => back c d, fun c => back_peer c d, fun c => peer_back c d⟩

/-- Whose right of the `j`-th kind a device uses: at its sources' semaphores its own, elsewhere that of the device it pays. -/
def whose (j : Fin 21) : Dev nD ≃ Dev nD :=
  if 1 ≤ j.val ∧ j.val < 10 then Equiv.refl _ else around (if j.val < 10 then 0 else if j.val = 19 then 1 else if j.val = 20 then 2 else ⟨(j.val - 10) % 3, Nat.mod_lt _ (by decide)⟩)

omit [FloatOps F] in
/-- A family over two index sets, taken in either order. -/
theorem swap_order {α β : Type} [Fintype α] [Fintype β] (Φ : α → β → sProp 𝕄) :
    (bigSep Finset.univ fun a => bigSep Finset.univ fun b => Φ a b) = bigSep Finset.univ fun b => bigSep Finset.univ fun a => Φ a b := by
  rw [← bigSep_univ_prod (fun x : α × β => Φ x.1 x.2), bigSep_univ_equiv (Equiv.prodComm β α), bigSep_univ_prod]
  rfl

omit [FloatOps F] in
/-- The rights, each handed from the device it is paid at to the device that pays. -/
theorem toks_dealt : (bigSep Finset.univ fun c : Dev nD => bigSep Finset.univ fun j : Fin 21 => (tok c j : sProp 𝕄))
    ⊢ bigSep Finset.univ fun c : Dev nD => iprop(barToks c ∗ sendAll (F := F) c) := by
  rw [swap_order, bigSep_congr (s := Finset.univ) fun (j : Fin 21) _ => bigSep_univ_equiv (whose j) (fun c : Dev nD => (tok c j : sProp 𝕄)), swap_order]
  refine bigSep_mono fun c _ => ?_
  rw [bigSep_univ_eq_bigSepL [(0 : Fin 21), 1, 2, 3, 4, 5, 6, 7, 8, 9, 10, 11, 12, 13, 14, 15, 16, 17, 18, 19, 20] (by decide) (by decide)]
  show iprop(dutyTok ER (barCell (peer c 0)) 0 0
    ∗ dutyTok ER (sCell c (kG 0 0)) 0 0 ∗ dutyTok ER (sCell c (kG 0 1)) 0 0 ∗ dutyTok ER (sCell c (kG 0 2)) 0 0
    ∗ dutyTok ER (sCell c (kG 1 0)) 0 0 ∗ dutyTok ER (sCell c (kG 1 1)) 0 0 ∗ dutyTok ER (sCell c (kG 1 2)) 0 0
    ∗ dutyTok ER (sCell c (kR 0)) 0 0 ∗ dutyTok ER (sCell c (kR 1)) 0 0 ∗ dutyTok ER (sCell c (kR 2)) 0 0
    ∗ dutyTok ER (vCell (peer c 0) (kG 0 0)) 0 0 ∗ dutyTok ER (vCell (peer c 1) (kG 0 1)) 0 0 ∗ dutyTok ER (vCell (peer c 2) (kG 0 2)) 0 0
    ∗ dutyTok ER (vCell (peer c 0) (kG 1 0)) 0 0 ∗ dutyTok ER (vCell (peer c 1) (kG 1 1)) 0 0 ∗ dutyTok ER (vCell (peer c 2) (kG 1 2)) 0 0
    ∗ dutyTok ER (vCell (peer c 0) (kR 0)) 0 0 ∗ dutyTok ER (vCell (peer c 1) (kR 1)) 0 0 ∗ dutyTok ER (vCell (peer c 2) (kR 2)) 0 0
    ∗ dutyTok ER (barCell (peer c 1)) 0 1 ∗ dutyTok ER (barCell (peer c 2)) 0 2) ⊢ _
  unfold barToks sendAll sendRes
  iintro ⟨B0, S1, S2, S3, S4, S5, S6, S7, S8, S9, V1, V2, V3, V4, V5, V6, V7, V8, V9, B1, B2⟩
  iframe B0 B1 B2 S1 S2 S3 S4 S5 S6 S7 S8 S9 V1 V2 V3 V4 V5 V6 V7 V8 V9

/-- The cells and rights of all devices give each device all the records, its own places and its payments. -/
theorem regroup :
    (bigSep Finset.univ fun c : Dev nD => iprop((bigSep Finset.univ fun i => iprop(∃ κ : ℕ, cellInv ER (Rd m ρ) κ (kcell (c, i))))
          ∗ (bigSep Finset.univ fun i => iprop(atPos ER (kcell (c, i)) 0 ∅ 0 ∗ reached ER (kcell (c, i)) 0))
          ∗ bigSep Finset.univ fun j : Fin 21 => tok c j) : sProp 𝕄)
      ⊢ bigSep Finset.univ (G' m ρ) := by
  rw [bigSep_sep', bigSep_sep', ← bigSep_univ_prod (fun x : Dev nD × Fin 19 => iprop(∃ κ : ℕ, cellInv ER (Rd m ρ) κ (kcell x))),
    bigSep_congr (s := Finset.univ) (fun (c : Dev nD) _ => bigSep_sep' Finset.univ (fun i : Fin 19 => (atPos ER (kcell (c, i)) 0 ∅ 0 : sProp 𝕄)) (fun i => reached ER (kcell (c, i)) 0)),
    bigSep_sep', ← bigSep_univ_prod (fun x : Dev nD × Fin 19 => (reached ER (kcell x) 0 : sProp 𝕄))]
  have hdeal (K : Dev nD × Fin 19 → ℕ) (c : Dev nD) : iprop(records m ρ K ∗ places c) ⊢ G' m ρ c := by
    unfold G'
    iintro H; iexists K; iexact H
  iintro ⟨HI, ⟨Hat, #HR⟩, Htok⟩
  ihave HK := (BI.bigSep_exists_pi Finset.univ (fun (x : Dev nD × Fin 19) (κ : ℕ) => (cellInv ER (Rd m ρ) κ (kcell x) : sProp 𝕄))) $$ HI
  icases HK with ⟨%K, #HI⟩
  ihave Htk := (toks_dealt (F := F)) $$ Htok
  iapply (BI.bigSep_with_persistent (R := records m ρ K) fun c _ => hdeal K c)
  isplitr
  · unfold records; isplitl; · iexact HI
    iexact HR
  · iapply ((Entails.of_eq (bigSep_sep' Finset.univ (fun c : Dev nD => bigSep Finset.univ fun i : Fin 19 => (atPos ER (kcell (c, i)) 0 ∅ 0 : sProp 𝕄))
      (fun c : Dev nD => iprop(barToks c ∗ sendAll (F := F) c))).symm).trans
      (bigSep_mono fun c _ => show _ ⊢ places c from Entails.of_eq (by unfold places; rfl)))
    isplitl [Hat]; · iexact Hat
    iexact Htk

/-- Every device's start of ghost state, from all semaphores at zero. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credits of the launch -/

/-- At which payment a transfer is owed. -/
def payNo : Fin 9 → Fin 12 := ![4, 3, 5, 7, 6, 8, 10, 9, 11]
/-- Each arrival semaphore is paid by exactly one of the twelve payments. -/
theorem paySem_iff : ∀ (k : Fin 9) (i : Fin 12), SemLoc.dma (vS k) = paySem i ↔ i = payNo k := by decide
/-- That payment is the transfer itself. -/
theorem payXfer_payNo : ∀ k : Fin 9, payXfer (payNo k) = k ∧ ¬ (payNo k).val < 3 := by decide
/-- The barrier is paid by the first three payments. -/
theorem barPays : ∀ i : Fin 12, SemLoc.reg barS = paySem i ↔ i.val < 3 := by decide

/-- What all devices together owe one semaphore of device `c`: each payment to that semaphore once. -/
theorem owed_sum (c : Dev nD) (sm : SemLoc sig) :
    ∑ d : Dev nD, owed d 0 ((c : Thread nD τ), sm) () = ∑ i : Fin 12, if sm = paySem i then payAmt i else 0 := by
  have h1 (d : Dev nD) : owed d 0 ((c : Thread nD τ), sm) () = ∑ i : Fin 12, if d = back c (payDir i) ∧ sm = paySem i then payAmt i else 0 := by
    unfold owed
    rw [Finset.sum_apply, Finsupp.finset_sum_apply]
    have hf : Finset.univ.filter (fun i : Fin 12 => 0 ≤ i.val) = Finset.univ := Finset.filter_true_of_mem fun i _ => Nat.zero_le _
    rw [hf]
    refine Finset.sum_congr rfl fun i _ => ?_
    rw [tallyAt_apply]
    refine if_congr ?_ rfl rfl
    constructor
    · intro h0
      have h := h0.1
      have e1 : c = peer d (payDir i) := congrArg (fun g : GSem nD τ sig => g.1.1) h
      exact ⟨by rw [e1, back_peer], congrArg Prod.snd h⟩
    · rintro ⟨h, h'⟩
      subst h; subst h'
      unfold payCell
      rw [peer_back]
      exact ⟨rfl, rfl⟩
  rw [Finset.sum_congr rfl fun d _ => h1 d, Finset.sum_comm]
  refine Finset.sum_congr rfl fun i _ => ?_
  by_cases h : sm = paySem i
  · rw [if_pos h, Finset.sum_congr rfl fun d _ => if_congr (and_iff_left h) rfl rfl, Finset.sum_ite_eq' Finset.univ (back c (payDir i)) fun _ => payAmt i, if_pos (Finset.mem_univ _)]
  · rw [if_neg h]
    exact Finset.sum_eq_zero fun d _ => if_neg fun h' => h h'.2

/-- All devices together owe each barrier three. -/
theorem owed_bar (c : Dev nD) : ∑ d : Dev nD, owed d 0 (barCell c) () = 3 := by
  rw [owed_sum c (.reg barS)]
  have h : ∀ i : Fin 12, (if SemLoc.reg barS = paySem i then payAmt i else 0) = if i.val < 3 then 1 else 0 := fun i => by
    by_cases h : i.val < 3
    · rw [if_pos ((barPays i).mpr h), if_pos h]; unfold payAmt; rw [if_pos h]
    · rw [if_neg (fun h' => h ((barPays i).mp h')), if_neg h]
  rw [Finset.sum_congr rfl fun i _ => h i]
  decide
/-- All devices together owe each arrival semaphore its transfer's amount. -/
theorem owed_arrival (c : Dev nD) (k : Fin 9) : ∑ d : Dev nD, owed d 0 (vCell c k) () = xamt k := by
  rw [owed_sum c (.dma (vS k)), Finset.sum_congr rfl fun i _ => if_congr (paySem_iff k i) rfl rfl, Finset.sum_ite_eq' Finset.univ (payNo k), if_pos (Finset.mem_univ _)]
  unfold payAmt
  rw [if_neg (payXfer_payNo k).2, (payXfer_payNo k).1]

/-- The credit a semaphore starts with is what all devices owe it. -/
theorem launch_at (g : GSem nD τ sig) (n : ℕ) (h : ∑ d : Dev nD, owed d 0 g () = n) :
    tallyOn g (launchCredit (Pipeline.owing fun d => owed d 0) 0 g) = (tallyAt g () n : CellTallies nD τ sig Unit) := by
  unfold tallyAt; refine congrArg _ (Finsupp.ext fun u => ?_); cases u
  rw [Pipeline.launchCredit_owing, Finsupp.single_eq_same, h]

/-- The nine arrival semaphores are different. -/
theorem vS_injective : Function.Injective (fun k : Fin 9 => (SemLoc.dma (vS k) : SemLoc sig)) := by
  intro k k' h; revert k k'; decide

omit [FloatOps F] in
/-- What a device may wait for at the start is what its credits say. -/
theorem creds (c : Dev nD) : (Pipeline.launchCred (fun d => owed d 0) c : sProp 𝕄) ⊢ credits c := by
  unfold Pipeline.launchCred credits
  rw [bigSep_univ_at _ (SemLoc.reg barS), launch_at (barCell c) 3 (owed_bar c)]
  refine sep_mono_right ?_
  have hs : Finset.univ.map ⟨fun k : Fin 9 => (SemLoc.dma (vS k) : SemLoc sig), vS_injective⟩ ⊆ Finset.univ.erase (SemLoc.reg barS) := by
    intro x hx
    obtain ⟨k, -, rfl⟩ := Finset.mem_map.mp hx
    exact Finset.mem_erase.mpr ⟨fun h => (by cases h), Finset.mem_univ _⟩
  refine (bigSep_subset hs).trans ?_
  rw [bigSep_map]
  refine bigSep_mono fun k _ => ?_
  show cred (tallyOn (vCell c k) (launchCredit (Pipeline.owing fun d => owed d 0) 0 (vCell c k))) ⊢ _
  rw [launch_at (vCell c k) (xamt k) (owed_arrival c k)]

/-! ## The launch's side conditions -/

/-- What the launch gives a device is what it starts from. -/
theorem start_intro (c : Dev nD) :
    iprop(Pipeline.unscopedRestP Pipeline.Prefetch.none cfg0.spec c (fun b => m ((c : Thread nD τ).loc b)) ∗ levAts L lv
        ∗ Pipeline.launchCred (fun d => owed d 0) c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · iframe HG Hc Hlev
  · iempintro

/-- With its scratch buffers it has what the body starts from. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratchAny
  iintro ⟨Hs, -, Hr⟩
  iframe Hs Hr

/-- What the body ends with is every semaphore at zero and the scratch buffers. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scratchAny
  iintro ⟨Hz, Hr⟩
  ihave Hz := (sems0_back c) $$ Hz
  icases Hz with ⟨HB, HO⟩
  iframe HB HO Hr

omit [FloatOps F] in
/-- A device may wait for a staging copy whatever it owes the others. -/
theorem stage_wait (c : Dev nD) (q : DmaSem sig) (hq : lvOf (.dma q) = 0) (O : CellTallies nD τ sig Unit) (hO : O = owed c 0 ∨ O = 0) :
    (levAts L lv : sProp 𝕄) ⊢ MayWait (c : Thread nD τ) (.dma q) () O := by
  rcases hO with rfl | rfl
  · exact mayWait c (.dma q) 0 fun i _ => by rw [hq]; revert i; decide
  · rw [MayWait_zero]; iintro -; iempintro

/-- All waits of the pipeline are allowed. -/
theorem waits (c : Dev nD) : (levAts L lv : sProp 𝕄) ⊢ Pipeline.cellsWaits cfgs (dats m ρ) () 0 c :=
  Pipeline.cellsWaits_intro cfgs (dats m ρ) () 0 c fun w s t =>
    stage_wait c _ (by fin_cases w <;> fin_cases s <;> decide) _ (by
      rcases t with ⟨_ | _, ht⟩
      · exact Or.inl rfl
      · exact Or.inr rfl)

/-! ## The run -/

/-- What the array of window `w` holds in the end. -/
def finalA (c : Dev nD) (w : Fin cfg0.W) : Buf (Elt F) ((cfg0.win w).arr.view.loc (c : Thread nD τ)) := (dats m ρ 0 c).arrAt w cfg0.N

/-- Each device's arrays end at what the body left in their windows. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On four devices, for any float values and from any memory with every semaphore at zero: every execution of the
    program ends, with each device's arrays at what the body left in their windows and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => owed d 0) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An operand's array after the run holds what it held. -/
theorem finalA_in (c : Dev nD) (w : Fin cfg0.W) (h : w.val < 7) : finalA m ρ c w = (s₀ m ρ).mem ((cfg0.win w).arr.view.loc (c : Thread nD τ)) := by
  refine (dats (F := F) m ρ 0 c).arrAt_in w ?_ _
  revert w; decide

/-- After the run every device's seven arguments hold what they held before it. -/
theorem args_kept {r : PUnit × MemSt nD τ sig (Elt F)} (h : QC m ρ r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨(h c 0).trans (finalA_in m ρ c 0 (by decide)),
    (h c 1).trans (finalA_in m ρ c 1 (by decide)),
    (h c 3).trans (finalA_in m ρ c 3 (by decide)),
    (h c 5).trans (finalA_in m ρ c 5 (by decide)),
    (h c 2).trans (finalA_in m ρ c 2 (by decide)),
    (h c 4).trans (finalA_in m ρ c 4 (by decide)),
    (h c 6).trans (finalA_in m ρ c 6 (by decide))⟩

end Cert.KernelIdeal.Mlp

end
-- ==== Proof.KernelIdeal.Value.lean ====
/-
# What the run leaves in the result

The result array of each device is `out`, the sum of all four devices' rows of the last partial products.
At the extended reals, where a cast is the identity, a layer is `layer`: two matrix products with a maximum
with zero between them. The columns of the first weight and the rows of the second are dealt out to the devices;
the devices' partial products sum up to the layer over the whole weights, in whatever order they are added.
-/
module

public import proofs.«01_k».proof.Proof.KernelIdeal.Launch
public import proofs.«01_k».proof.Proof.Gen.ReferenceIdeal.Run
public import Idealize.ShloMosaic.Lib.MatmulPlain
public import Idealize.ShloMosaic.Lib.StackMember
public import Idealize.ShloMosaic.Lib.ValueIdx
public import Idealize.ShloMosaic.Lib.Layout
public import Idealize.ShloMosaic.Lib.Pipeline.ValueKit.Geometry

@[expose] public section

noncomputable section

namespace Cert.KernelIdeal.Mlp

open Cert.KernelIdeal Cert.KernelIdeal.Gen
open Idealize.ShloMosaic Idealize.ShloMosaic.TcCoe
open Idealize.SL Idealize.SL.Sem
open Idealize.ShloMosaic.ValueIdx

/-! ## The arrays behind the windows -/

section Windows

variable {F : FTy → Type} [FloatOps F]
variable (m : (ℓ : Loc nD τ sig) → Buf (Elt F) ℓ) (ρ : Dev nD → PrngReg)

/-- The offset of the only block adds nothing. -/
theorem zero_one_mul (n k : ℕ) : 0 * n + 1 * k = k := by rw [Nat.zero_mul, Nat.zero_add, Nat.one_mul]

/-- Each window is its whole array: an argument is staged as it is. -/
theorem xs_eq (c : Dev nD) : xs m ρ c = m ((c : Thread nD τ).loc main_arg0) := by
  unfold xs s₀
  funext y
  refine congrArg (m ((c : Thread nD τ).loc main_arg0)) (?_ : (win0_0.blk (0 : Fin 1)).view.emb y = y)
  funext a; apply Fin.ext
  match a with
  | ⟨0, _⟩ => exact zero_one_mul _ _
  | ⟨1, _⟩ => exact zero_one_mul _ _
/-- The first layer's first weight block is the argument it is fetched from. -/
theorem wi0_eq (c : Dev nD) : wi0 m ρ c = m ((c : Thread nD τ).loc main_arg1) := by
  unfold wi0 s₀
  funext y
  refine congrArg (m ((c : Thread nD τ).loc main_arg1)) (?_ : (win0_1.blk (0 : Fin 1)).view.emb y = y)
  funext a; apply Fin.ext
  match a with
  | ⟨0, _⟩ => exact zero_one_mul _ _
  | ⟨1, _⟩ => exact zero_one_mul _ _
/-- The first layer's second weight block is the argument it is fetched from. -/
theorem wo0_eq (c : Dev nD) : wo0 m ρ c = m ((c : Thread nD τ).loc main_arg4) := by
  unfold wo0 s₀
  funext y
  refine congrArg (m ((c : Thread nD τ).loc main_arg4)) (?_ : (win0_2.blk (0 : Fin 1)).view.emb y = y)
  funext a; apply Fin.ext
  match a with
  | ⟨0, _⟩ => exact zero_one_mul _ _
  | ⟨1, _⟩ => exact zero_one_mul _ _
/-- The second layer's first weight block is the argument it is fetched from. -/
theorem wi1_eq (c : Dev nD) : wi1 m ρ c = m ((c : Thread nD τ).loc main_arg2) := by
  unfold wi1 s₀
  funext y
  refine congrArg (m ((c : Thread nD τ).loc main_arg2)) (?_ : (win0_3.blk (0 : Fin 1)).view.emb y = y)
  funext a; apply Fin.ext
  match a with
  | ⟨0, _⟩ => exact zero_one_mul _ _
  | ⟨1, _⟩ => exact zero_one_mul _ _
/-- The second layer's second weight block is the argument it is fetched from. -/
theorem wo1_eq (c : Dev nD) : wo1 m ρ c = m ((c : Thread nD τ).loc main_arg5) := by
  unfold wo1 s₀
  funext y
  refine congrArg (m ((c : Thread nD τ).loc main_arg5)) (?_ : (win0_4.blk (0 : Fin 1)).view.emb y = y)
  funext a; apply Fin.ext
  match a with
  | ⟨0, _⟩ => exact zero_one_mul _ _
  | ⟨1, _⟩ => exact zero_one_mul _ _
/-- The last layer's first weight block is the argument it is fetched from. -/
theorem wi2_eq (c : Dev nD) : wi2 m ρ c = m ((c : Thread nD τ).loc main_arg3) := by
  unfold wi2 s₀
  funext y
  refine congrArg (m ((c : Thread nD τ).loc main_arg3)) (?_ : (win0_5.blk (0 : Fin 1)).view.emb y = y)
  funext a; apply Fin.ext
  match a with
  | ⟨0, _⟩ => exact zero_one_mul _ _
  | ⟨1, _⟩ => exact zero_one_mul _ _
/-- The last layer's second weight block is the argument it is fetched from. -/
theorem wo2_eq (c : Dev nD) : wo2 m ρ c = m ((c : Thread nD τ).loc main_arg6) := by
  unfold wo2 s₀
  funext y
  refine congrArg (m ((c : Thread nD τ).loc main_arg6)) (?_ : (win0_6.blk (0 : Fin 1)).view.emb y = y)
  funext a; apply Fin.ext
  match a with
  | ⟨0, _⟩ => exact zero_one_mul _ _
  | ⟨1, _⟩ => exact zero_one_mul _ _

/-- The window of the result is the whole array. -/
theorem emb_blk7 (y : S32x128.Idx) : ((cfg0.win 7).blk t₀).view.emb y = y := by
  funext a; apply Fin.ext
  match a with
  | ⟨0, _⟩ => exact zero_one_mul _ _
  | ⟨1, _⟩ => exact zero_one_mul _ _

/-- The result array ends at `out`. -/
theorem finalA_out (c : Dev nD) : finalA m ρ c 7 = out m ρ c := by
  refine (dats m ρ 0 c).arrAt_eq_of_emb 7 (out m ρ c) (fun t _ y => ?_)
    (fun i => ⟨t₀, flush0_7 t₀, Finset.mem_map.mpr ⟨i, Finset.mem_univ _, emb_blk7 i⟩⟩)
  obtain rfl := fin_N t
  have ha : (dats m ρ 0 c).after 7 t₀ = out m ρ c := by dsimp only [dats]
  rw [ha]
  generalize out m ρ c = o
  exact congrArg o (emb_blk7 y).symm

end Windows

/-! ## Layers over the extended reals -/

/-- A matrix read by row and column. -/
abbrev mat {a b : ℕ} {φ : FTy} (v : FVec Ideal ⟨2, ![a, b]⟩ φ) : Fin a → Fin b → EReal := fun i j => v (ix2 i j)

/-- A layer: the product with `A`, the maximum with zero, the product with `B`. -/
def layer {n : ℕ} (X : Fin 128 → Fin 128 → EReal) (A : Fin 128 → Fin n → EReal) (B : Fin n → Fin 128 → EReal) : Fin 128 → Fin 128 → EReal :=
  fun i j => ∑ k : Fin n, max (∑ l : Fin 128, X i l * A l k) 0 * B k j

/-- Place `k` of device `d` among all 1024 columns or rows. -/
def at4 (d : Fin 4) (k : Fin 256) : Fin 1024 := ⟨d.val * 256 + k.val, by omega⟩

/-- A layer is the sum over the devices of the layers over their shards. -/
theorem layer_shards (X : Fin 128 → Fin 128 → EReal) (A : Fin 128 → Fin 1024 → EReal) (B : Fin 1024 → Fin 128 → EReal) (i j : Fin 128) :
    ∑ d : Fin 4, layer X (fun l k => A l (at4 d k)) (fun k j => B (at4 d k) j) i j = layer X A B i j := by
  unfold layer
  rw [← Fintype.sum_prod_type' (f := fun (d : Fin 4) (k : Fin 256) => max (∑ l : Fin 128, X i l * A l (at4 d k)) 0 * B (at4 d k) j)]
  refine (Fintype.sum_equiv (finProdFinEquiv (m := 4) (n := 256)) _ (fun k : Fin 1024 => max (∑ l : Fin 128, X i l * A l k) 0 * B k j) fun x => ?_)
  have e : finProdFinEquiv x = at4 x.1 x.2 := Fin.ext (by simp [at4, finProdFinEquiv]; omega)
  rw [e]

/-- A device's own summand and the three it receives are all four, whatever device it is. -/
theorem sum_devices (f : Dev nD → EReal) (c : Dev nD) : f c + f (back c 0) + f (back c 2) + f (back c 1) = ∑ d : Dev nD, f d := by
  have h : ∑ d : Dev nD, f d = f 0 + f 1 + f 2 + f 3 := Fin.sum_univ_four f
  rw [h]
  have hc : c = 0 ∨ c = 1 ∨ c = 2 ∨ c = 3 := by revert c; decide
  rcases hc with rfl | rfl | rfl | rfl
  · rw [show back 0 0 = 3 by decide, show back 0 2 = 1 by decide, show back 0 1 = 2 by decide]; ac_rfl
  · rw [show back 1 0 = 0 by decide, show back 1 2 = 2 by decide, show back 1 1 = 3 by decide]; ac_rfl
  · rw [show back 2 0 = 1 by decide, show back 2 2 = 3 by decide, show back 2 1 = 0 by decide]; ac_rfl
  · rw [show back 3 0 = 2 by decide, show back 3 2 = 0 by decide, show back 3 1 = 1 by decide]; ac_rfl

/-! ## What the body computes, element by element -/

/-- The body's two products with the maximum between them are a layer. -/
theorem body_layer (x : FVec Ideal S128x128 .bf16) (a : FVec Ideal S128x256 .bf16) (b : FVec Ideal S256x128 .bf16) (i j : Fin 128) :
    matmul dot_S128x256_S256x128_S128x128_1_0_0_1_n_n none
      (truncf .bf16 (maximumf (matmul dot_S128x128_S128x256_S128x256_1_0_0_1_n_n none x a (constant S128x256 .f32 0x00000000#32))
        (broadcast S128x256 (Scalar.ofBits .f32 0x00000000#32))) bitsLt_bf16_f32) b (constant S128x128 .f32 0x00000000#32) (ix2 i j)
      = layer (mat x) (mat a) (mat b) i j := by
  refine (Ideal.matmul_plain_apply none _ _ _ i j).trans ?_
  refine (congrArg (· + _) Ideal.ofBits_zero_f32).trans ((zero_add _).trans ?_)
  unfold layer
  refine Finset.sum_congr rfl fun k _ => congrArg (· * b (ix2 k j)) ?_
  refine congrArg₂ max ?_ Ideal.ofBits_zero_f32
  refine (Ideal.matmul_plain_apply none x a _ i k).trans ?_
  exact (congrArg (· + _) Ideal.ofBits_zero_f32).trans (zero_add _)

/-- The reference's two products with the maximum between them are a layer. -/
theorem host_layer (x : FVec Ideal Cert.ReferenceIdeal.S128x128 .f32) (a : FVec Ideal Cert.ReferenceIdeal.S128x1024 .f32) (b : FVec Ideal Cert.ReferenceIdeal.S1024x128 .f32) (i j : Fin 128) :
    Host.dotGeneral Cert.ReferenceIdeal.dot_S128x1024_S1024x128_S128x128_1_0_0_1_n_n none
      (maximumf (Host.dotGeneral Cert.ReferenceIdeal.dot_S128x128_S128x1024_S128x1024_1_0_0_1_n_n none x a)
        (broadcastInDim Cert.ReferenceIdeal.S128x1024 ![] Cert.ReferenceIdeal.Facts₀.bcast_S_S128x1024 (constant Cert.ReferenceIdeal.S_ .f32 0x00000000#32))) b (ix2 i j)
      = layer (mat x) (mat a) (mat b) i j := by
  refine (StackMember.dotGeneral_plain_apply none _ b i j).trans ?_
  unfold layer
  refine Finset.sum_congr rfl fun k _ => congrArg (· * b (ix2 k j)) ?_
  refine congrArg₂ max ?_ Ideal.ofBits_zero_f32
  exact StackMember.dotGeneral_plain_apply none x a i k

/-- A weight shard narrowed to the products' format is itself. -/
theorem mat_pay1 (w : Vec Ideal S128x256 .f32) : mat (k0_pay1 w) = mat (φ := .f32) w := congrArg (mat (φ := .f32)) (shapeCast_self w _)
/-- The same of the first weight shard of the second layer. -/
theorem mat_pay2 (w : Vec Ideal S128x256 .f32) : mat (k0_pay2 w) = mat (φ := .f32) w := congrArg (mat (φ := .f32)) (shapeCast_self w _)
/-- The same of the first weight shard of the last layer. -/
theorem mat_pay3 (w : Vec Ideal S128x256 .f32) : mat (k0_pay3 w) = mat (φ := .f32) w := congrArg (mat (φ := .f32)) (shapeCast_self w _)
/-- The same of the second weight shard of the first layer. -/
theorem mat_pay4 (w : Vec Ideal S256x128 .f32) : mat (k0_pay4 w) = mat (φ := .f32) w := congrArg (mat (φ := .f32)) (shapeCast_self w _)
/-- The same of the second weight shard of the second layer. -/
theorem mat_pay5 (w : Vec Ideal S256x128 .f32) : mat (k0_pay5 w) = mat (φ := .f32) w := congrArg (mat (φ := .f32)) (shapeCast_self w _)
/-- The same of the second weight shard of the last layer. -/
theorem mat_pay6 (w : Vec Ideal S256x128 .f32) : mat (k0_pay6 w) = mat (φ := .f32) w := congrArg (mat (φ := .f32)) (shapeCast_self w _)

/-- A landed partial product, read without its unit axes; -/
theorem cast_slotG (q : Vec Ideal S1x128x128 .bf16) (i j : Fin 128) :
    shapeCast S128x128 (slotG q) shapeCasts_S1x1x128x128_S128x128 (ix2 i j) = q (ix3 (0 : Fin 1) i j) := by
  show slotG q (Shape.reshapeEquiv _ (ix2 i j)) = _
  rw [reshapeEquiv_ix2_11ab]
  rfl
/-- the same of its 32 rows. -/
theorem cast_slotR (p : Dev nD) (q : Vec Ideal S1x128x128 .bf16) (i : Fin 32) (j : Fin 128) :
    shapeCast S32x128 (slotR p q) shapeCasts_S1x32x128_S32x128 (ix2 i j) = q (ix3 (0 : Fin 1) (rowOf p i) j) := by
  show slotR p q (Shape.reshapeEquiv _ (ix2 i j)) = _
  rw [reshapeEquiv_ix2_1ab]
  rfl

section Whole

variable (m : (ℓ : Loc nD τ sig) → Buf (Elt Ideal) ℓ) (ρ : Dev nD → PrngReg)

/-- A first weight's shard is the columns of its device; -/
theorem mat_cols (A : FVec Ideal ⟨2, ![128, 1024]⟩ .f32) (c : Dev nD) :
    mat (φ := .f32) (Layout.block ⟨2, ![128, 256]⟩ ⟨2, ![128, 1024]⟩ 1 4 c A) = fun l k => mat A l (at4 c k) := by
  funext l k
  refine congrArg A (?_ : Layout.Tiles.idx _ c (ix2 l k) = ix2 l (at4 c k))
  funext a; apply Fin.ext
  match a with
  | ⟨0, _⟩ => rfl
  | ⟨1, _⟩ => rfl
/-- a second weight's shard the rows. -/
theorem mat_rows (B : FVec Ideal ⟨2, ![1024, 128]⟩ .f32) (c : Dev nD) :
    mat (φ := .f32) (Layout.block ⟨2, ![256, 128]⟩ ⟨2, ![1024, 128]⟩ 0 4 c B) = fun k j => mat B (at4 c k) j := by
  funext k j
  refine congrArg B (?_ : Layout.Tiles.idx _ c (ix2 k j) = ix2 (at4 c k) j)
  funext a; apply Fin.ext
  match a with
  | ⟨0, _⟩ => rfl
  | ⟨1, _⟩ => rfl

/-- The devices' memories hold the whole arrays' shards. -/
structure Sharded (X : FVec Ideal ⟨2, ![128, 128]⟩ .f32) (A0 A1 A2 : FVec Ideal ⟨2, ![128, 1024]⟩ .f32) (B0 B1 B2 : FVec Ideal ⟨2, ![1024, 128]⟩ .f32) : Prop where
  hx : ∀ c : Dev nD, m ((c : Thread nD τ).loc main_arg0) = X
  hA0 : ∀ c : Dev nD, m ((c : Thread nD τ).loc main_arg1) = Layout.block ⟨2, ![128, 256]⟩ ⟨2, ![128, 1024]⟩ 1 4 c A0
  hA1 : ∀ c : Dev nD, m ((c : Thread nD τ).loc main_arg2) = Layout.block ⟨2, ![128, 256]⟩ ⟨2, ![128, 1024]⟩ 1 4 c A1
  hA2 : ∀ c : Dev nD, m ((c : Thread nD τ).loc main_arg3) = Layout.block ⟨2, ![128, 256]⟩ ⟨2, ![128, 1024]⟩ 1 4 c A2
  hB0 : ∀ c : Dev nD, m ((c : Thread nD τ).loc main_arg4) = Layout.block ⟨2, ![256, 128]⟩ ⟨2, ![1024, 128]⟩ 0 4 c B0
  hB1 : ∀ c : Dev nD, m ((c : Thread nD τ).loc main_arg5) = Layout.block ⟨2, ![256, 128]⟩ ⟨2, ![1024, 128]⟩ 0 4 c B1
  hB2 : ∀ c : Dev nD, m ((c : Thread nD τ).loc main_arg6) = Layout.block ⟨2, ![256, 128]⟩ ⟨2, ![1024, 128]⟩ 0 4 c B2

/-- What device `d` adds to a layer. -/
def shard (X : Fin 128 → Fin 128 → EReal) (A : FVec Ideal ⟨2, ![128, 1024]⟩ .f32) (B : FVec Ideal ⟨2, ![1024, 128]⟩ .f32) (d : Dev nD) : Fin 128 → Fin 128 → EReal :=
  layer X (fun l k => mat A l (at4 d k)) (fun k j => mat B (at4 d k) j)

/-- A device's summand and the three it receives are the whole layer. -/
theorem shard_sum (X : Fin 128 → Fin 128 → EReal) (A : FVec Ideal ⟨2, ![128, 1024]⟩ .f32) (B : FVec Ideal ⟨2, ![1024, 128]⟩ .f32) (c : Dev nD) (i j : Fin 128) :
    shard X A B c i j + shard X A B (back c 0) i j + shard X A B (back c 2) i j + shard X A B (back c 1) i j = layer X (mat A) (mat B) i j :=
  (sum_devices (fun d => shard X A B d i j) c).trans (layer_shards X (mat A) (mat B) i j)

variable {m}
variable {X : FVec Ideal ⟨2, ![128, 128]⟩ .f32} {A0 A1 A2 : FVec Ideal ⟨2, ![128, 1024]⟩ .f32} {B0 B1 B2 : FVec Ideal ⟨2, ![1024, 128]⟩ .f32}
variable (H : Sharded m X A0 A1 A2 B0 B1 B2)
include H

/-- The first layer: the partial products, -/
theorem h0_val (c : Dev nD) (i j : Fin 128) : h0 m ρ c (ix2 i j) = shard (mat X) A0 B0 c i j := by
  have hx : mat (φ := .bf16) (truncf .bf16 (shapeCast S128x128 (xs m ρ c) shapeCasts_S128x128_S128x128 : FVec Ideal S128x128 .f32) bitsLt_bf16_f32) = mat X := by
    rw [xs_eq, H.hx]; exact congrArg (mat (φ := .f32)) (shapeCast_self X _)
  refine (body_layer _ _ _ i j).trans ?_
  rw [hx, mat_pay1, mat_pay4, wi0_eq, wo0_eq, H.hA0, H.hB0]
  unfold shard
  rw [← mat_cols, ← mat_rows]
/-- The first layer's product as it is sent: device `c`'s summand of the layer. -/
theorem q0_val (c : Dev nD) (i j : Fin 128) : q0 m ρ c (ix3 (0 : Fin 1) i j) = shard (mat X) A0 B0 c i j :=
  (shapeCast_ab_1ab_apply _ _ (0 : Fin 1) i j).trans (h0_val ρ H c i j)
/-- and their sum on every device. -/
theorem sum0_val (c : Dev nD) : mat (φ := .bf16) (addf (a0 m ρ c) (shapeCast S128x128 (slotG (q0 m ρ (back c 1))) shapeCasts_S1x1x128x128_S128x128))
    = layer (mat X) (mat A0) (mat B0) := by
  funext i j
  rw [← shard_sum (mat X) A0 B0 c i j]
  show h0 m ρ c (ix2 i j) + shapeCast S128x128 (slotG (q0 m ρ (back c 0))) shapeCasts_S1x1x128x128_S128x128 (ix2 i j)
    + shapeCast S128x128 (slotG (q0 m ρ (back c 2))) shapeCasts_S1x1x128x128_S128x128 (ix2 i j)
    + shapeCast S128x128 (slotG (q0 m ρ (back c 1))) shapeCasts_S1x1x128x128_S128x128 (ix2 i j) = _
  rw [h0_val ρ H, cast_slotG, cast_slotG, cast_slotG, q0_val ρ H, q0_val ρ H, q0_val ρ H]

/-- The second layer likewise, -/
theorem h1_val (c : Dev nD) (i j : Fin 128) : h1 m ρ c (ix2 i j) = shard (layer (mat X) (mat A0) (mat B0)) A1 B1 c i j := by
  refine (body_layer _ _ _ i j).trans ?_
  rw [sum0_val ρ H, mat_pay2, mat_pay5, wi1_eq, wo1_eq, H.hA1, H.hB1]
  unfold shard
  rw [← mat_cols, ← mat_rows]
/-- The second layer's product as it is sent: device `c`'s summand of the layer. -/
theorem q1_val (c : Dev nD) (i j : Fin 128) : q1 m ρ c (ix3 (0 : Fin 1) i j) = shard (layer (mat X) (mat A0) (mat B0)) A1 B1 c i j :=
  (shapeCast_ab_1ab_apply _ _ (0 : Fin 1) i j).trans (h1_val ρ H c i j)
/-- On every device the second layer's four summands add up to the whole layer. -/
theorem sum1_val (c : Dev nD) : mat (φ := .bf16) (addf (a1 m ρ c) (shapeCast S128x128 (slotG (q1 m ρ (back c 1))) shapeCasts_S1x1x128x128_S128x128))
    = layer (layer (mat X) (mat A0) (mat B0)) (mat A1) (mat B1) := by
  funext i j
  rw [← shard_sum (layer (mat X) (mat A0) (mat B0)) A1 B1 c i j]
  show h1 m ρ c (ix2 i j) + shapeCast S128x128 (slotG (q1 m ρ (back c 0))) shapeCasts_S1x1x128x128_S128x128 (ix2 i j)
    + shapeCast S128x128 (slotG (q1 m ρ (back c 2))) shapeCasts_S1x1x128x128_S128x128 (ix2 i j)
    + shapeCast S128x128 (slotG (q1 m ρ (back c 1))) shapeCasts_S1x1x128x128_S128x128 (ix2 i j) = _
  rw [h1_val ρ H, cast_slotG, cast_slotG, cast_slotG, q1_val ρ H, q1_val ρ H, q1_val ρ H]

/-- and the last, -/
theorem q2_val (c : Dev nD) (i j : Fin 128) : q2 m ρ c (ix3 (0 : Fin 1) i j)
    = shard (layer (layer (mat X) (mat A0) (mat B0)) (mat A1) (mat B1)) A2 B2 c i j := by
  unfold q2 k0_pay13
  refine (shapeCast_ab_1ab_apply _ _ (0 : Fin 1) i j).trans ?_
  refine (body_layer _ _ _ i j).trans ?_
  rw [sum1_val ρ H, mat_pay3, mat_pay6, wi2_eq, wo2_eq, H.hA2, H.hB2]
  unfold shard
  rw [← mat_cols, ← mat_rows]
/-- of which each device adds up its own rows. -/
theorem out_val (c : Dev nD) (i : Fin 32) (j : Fin 128) : out m ρ c (ix2 i j)
    = layer (layer (layer (mat X) (mat A0) (mat B0)) (mat A1) (mat B1)) (mat A2) (mat B2) (rowOf c i) j := by
  rw [← shard_sum (layer (layer (mat X) (mat A0) (mat B0)) (mat A1) (mat B1)) A2 B2 c (rowOf c i) j]
  show shapeCast S32x128 (slotR c (q2 m ρ c)) shapeCasts_S1x32x128_S32x128 (ix2 i j)
    + shapeCast S32x128 (slotR c (q2 m ρ (back c 0))) shapeCasts_S1x32x128_S32x128 (ix2 i j)
    + shapeCast S32x128 (slotR c (q2 m ρ (back c 2))) shapeCasts_S1x32x128_S32x128 (ix2 i j)
    + shapeCast S32x128 (slotR c (q2 m ρ (back c 1))) shapeCasts_S1x32x128_S32x128 (ix2 i j) = _
  rw [cast_slotR, cast_slotR, cast_slotR, cast_slotR, q2_val ρ H, q2_val ρ H, q2_val ρ H, q2_val ρ H]

omit H in
/-- Three layers of the reference. -/
def refOut (X : FVec Ideal Cert.ReferenceIdeal.S128x128 .f32) (A0 A1 A2 : FVec Ideal Cert.ReferenceIdeal.S128x1024 .f32) (B0 B1 B2 : FVec Ideal Cert.ReferenceIdeal.S1024x128 .f32) :
    FVec Ideal Cert.ReferenceIdeal.S128x128 .f32 :=
  let lay := fun (x : FVec Ideal Cert.ReferenceIdeal.S128x128 .f32) (a : FVec Ideal Cert.ReferenceIdeal.S128x1024 .f32) (b : FVec Ideal Cert.ReferenceIdeal.S1024x128 .f32) =>
    Host.dotGeneral Cert.ReferenceIdeal.dot_S128x1024_S1024x128_S128x128_1_0_0_1_n_n none
      (maximumf (Host.dotGeneral Cert.ReferenceIdeal.dot_S128x128_S128x1024_S128x1024_1_0_0_1_n_n none x a)
        (broadcastInDim Cert.ReferenceIdeal.S128x1024 ![] Cert.ReferenceIdeal.Facts₀.bcast_S_S128x1024 (constant Cert.ReferenceIdeal.S_ .f32 0x00000000#32))) b
  lay (lay (lay X A0 B0) A1 B1) A2 B2

omit H in
/-- The reference's result is the three layers, one after the other, of the whole arguments. -/
theorem refOut_val (X : FVec Ideal Cert.ReferenceIdeal.S128x128 .f32) (A0 A1 A2 : FVec Ideal Cert.ReferenceIdeal.S128x1024 .f32) (B0 B1 B2 : FVec Ideal Cert.ReferenceIdeal.S1024x128 .f32) (i j : Fin 128) :
    refOut X A0 A1 A2 B0 B1 B2 (ix2 i j) = layer (layer (layer (mat X) (mat A0) (mat B0)) (mat A1) (mat B1)) (mat A2) (mat B2) i j := by
  refine (host_layer _ A2 B2 i j).trans (congrArg (fun Y => layer Y (mat A2) (mat B2) i j) ?_)
  funext i j
  refine (host_layer _ A1 B1 i j).trans (congrArg (fun Y => layer Y (mat A1) (mat B1) i j) ?_)
  funext i j
  exact host_layer X A0 B0 i j

/-- Each device's result is its 32 rows of the reference's. -/
theorem out_eq (c : Dev nD) : out m ρ c = Layout.block ⟨2, ![32, 128]⟩ ⟨2, ![128, 128]⟩ 0 4 c (refOut X A0 A1 A2 B0 B1 B2) := by
  funext y
  obtain ⟨i, j, rfl⟩ : ∃ (i : Fin 32) (j : Fin 128), y = ix2 i j := ⟨y 0, y 1, eq_ix2 y⟩
  rw [out_val ρ H, ← refOut_val]
  refine congrArg (refOut X A0 A1 A2 B0 B1 B2) (?_ : ix2 (rowOf c i) j = Layout.Tiles.idx _ c (ix2 i j))
  funext a; apply Fin.ext
  match a with
  | ⟨0, _⟩ => exact congrArg (· + i.val) (Nat.mul_comm 32 c.val)
  | ⟨1, _⟩ => rfl

end Whole

end Cert.KernelIdeal.Mlp

end
-- ==== Proof.lean ====
/-
# The proof of the certificate's claims

The kernel's run on four devices (Proof/Kernel/Launch.lean, Proof/KernelIdeal/Launch.lean), proved for any float
values, gives the two frames of the kernel. The reference is a host program without semaphores. Over the extended
reals each device's result is its 32 rows of the reference's (Proof/KernelIdeal/Value.lean), which is the value claim.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Launch
public import proofs.«01_k».proof.Proof.KernelIdeal.Launch
public import proofs.«01_k».proof.Proof.KernelIdeal.Value
public import Idealize.ShloMosaic.Adequacy
public import Idealize.ShloMosaic.Init

@[expose] public section

noncomputable section

namespace Cert.Proof

open Idealize.ShloMosaic Idealize.SL.Sem Cert.Kernel

/-- The printed kernel ends, keeps its arguments and leaves every semaphore at zero. -/
theorem frame_kernel : Cert.quiescent_Kernel := fun m g _ =>
  (θ_run Cert.Kernel.defs _ _).mono (fun _ h => ⟨Cert.Kernel.Mlp.args_kept m g h.1, h.2⟩) (Cert.Kernel.Mlp.run_main (F := Bits) m g)

/-- So does the ideal kernel. -/
theorem frame_kernelIdeal : Cert.quiescent_KernelIdeal := fun m g _ =>
  (θ_run Cert.KernelIdeal.defs _ _).mono (fun _ h => ⟨Cert.KernelIdeal.Mlp.args_kept m g h.1, h.2⟩) (Cert.KernelIdeal.Mlp.run_main (F := Ideal) m g)

/-- So does the ideal reference, which declares no semaphore. -/
theorem frame_referenceIdeal : Cert.quiescent_ReferenceIdeal := fun m g _ =>
  (θ_run Cert.ReferenceIdeal.defs _ _).mono
    (fun r h => ⟨fun c => (h c).2, Idealize.ShloMosaic.sem_eq_zero_of_no_sems (by decide) r.2⟩) (Cert.ReferenceIdeal.Value.run (F := Ideal) m g)

/-- The ideal kernel is the kernel: nothing was rewritten. -/
theorem preserves_kernel : Cert.preserves_Kernel_KernelIdeal := trivial

/-- Over the extended reals the kernel computes the reference's function, from any arguments: the reference ends with three
    whole layers, and device `c` of the kernel with rows `32c` to `32c + 31` of them. -/
theorem algebraic_kernel : Cert.algebraic_KernelIdeal_ReferenceIdeal := by
  intro m g m' g' _ hag
  have H : Cert.KernelIdeal.Mlp.Sharded m _ _ _ _ _ _ _ :=
    ⟨fun c => (hag c).1, fun c => (hag c).2.1, fun c => (hag c).2.2.1, fun c => (hag c).2.2.2.1, fun c => (hag c).2.2.2.2.1,
      fun c => (hag c).2.2.2.2.2.1, fun c => (hag c).2.2.2.2.2.2⟩
  refine ⟨Cert.KernelIdeal.Mlp.refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4))
      (m' (((0 : Dev Cert.ReferenceIdeal.nD).tc : Thread Cert.ReferenceIdeal.nD Cert.ReferenceIdeal.τ).loc Cert.ReferenceIdeal.main_arg5))
      (m' (((0 : Dev Cert.ReferenceIdeal.nD).tc : Thread Cert.ReferenceIdeal.nD Cert.ReferenceIdeal.τ).loc Cert.ReferenceIdeal.main_arg6)), ?_, ?_⟩
  · refine (θ_run Cert.KernelIdeal.defs _ _).mono (fun r h c => ⟨?_, Cert.KernelIdeal.Mlp.args_kept m g h.1 c⟩) (Cert.KernelIdeal.Mlp.run_main (F := Ideal) m g)
    exact (h.1 c 7).trans ((Cert.KernelIdeal.Mlp.finalA_out m g c).trans (Cert.KernelIdeal.Mlp.out_eq g H c))
  · exact (θ_run Cert.ReferenceIdeal.defs _ _).mono (fun _ h => h 0) (Cert.ReferenceIdeal.Value.run (F := Ideal) m' g')

/-- All claims together, with the facts that the programs state. -/
theorem claim : Cert.Claim :=
  ⟨Cert.Kernel.Gen.facts, Cert.KernelIdeal.Gen.facts, Cert.ReferenceIdeal.Gen.facts,
    frame_kernel, frame_kernelIdeal, frame_referenceIdeal, preserves_kernel, algebraic_kernel⟩

end Cert.Proof

end
